-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.bf16_pack.Statement Cert.KernelIdeal.S64x390
  ∧ IdealRules.bf16_pack.Statement Cert.KernelIdeal.S640x128
  ∧ IdealRules.bf16_pack.Statement Cert.KernelIdeal.S640x200

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1024x26013 : Shape := ⟨2, ![1024, 26013]⟩
abbrev S26013x1 : Shape := ⟨2, ![26013, 1]⟩
abbrev S1 : Shape := ⟨1, ![1]⟩
abbrev S13x10 : Shape := ⟨2, ![13, 10]⟩
abbrev S26x1000x10 : Shape := ⟨3, ![26, 1000, 10]⟩
abbrev S1521x200 : Shape := ⟨2, ![1521, 200]⟩
abbrev S200 : Shape := ⟨1, ![200]⟩
abbrev S7800x200 : Shape := ⟨2, ![7800, 200]⟩
abbrev S600x1 : Shape := ⟨2, ![600, 1]⟩
abbrev S390x400 : Shape := ⟨2, ![390, 400]⟩
abbrev S400 : Shape := ⟨1, ![400]⟩
abbrev S400x400 : Shape := ⟨2, ![400, 400]⟩
abbrev S400x1 : Shape := ⟨2, ![400, 1]⟩
abbrev S_ : Shape := ⟨0, ![]⟩

class Facts : Prop where
  bcast_S_S1024x26013 : S_.BroadcastsInDim S1024x26013 (![] : Fin 0 → Fin S1024x26013.rank)
  reducesTo_S1024x26013_S_d0_1 : S1024x26013.ReducesTo [0, 1] S_
  h_S_ : 0 < S_.numel
  bcast_S_S13x10 : S_.BroadcastsInDim S13x10 (![] : Fin 0 → Fin S13x10.rank)
  reducesTo_S13x10_S_d0_1 : S13x10.ReducesTo [0, 1] S_
  bcast_S_S26x1000x10 : S_.BroadcastsInDim S26x1000x10 (![] : Fin 0 → Fin S26x1000x10.rank)
  reducesTo_S26x1000x10_S_d0_1_2 : S26x1000x10.ReducesTo [0, 1, 2] S_
  bcast_S_S1521x200 : S_.BroadcastsInDim S1521x200 (![] : Fin 0 → Fin S1521x200.rank)
  reducesTo_S1521x200_S_d0_1 : S1521x200.ReducesTo [0, 1] S_
  bcast_S_S200 : S_.BroadcastsInDim S200 (![] : Fin 0 → Fin S200.rank)
  reducesTo_S200_S_d0 : S200.ReducesTo [0] S_
  bcast_S_S7800x200 : S_.BroadcastsInDim S7800x200 (![] : Fin 0 → Fin S7800x200.rank)
  reducesTo_S7800x200_S_d0_1 : S7800x200.ReducesTo [0, 1] S_

variable [Facts]

def fn_part1 {F : FTy → Type} [FloatOps F] (main_arg6 : FVec F S200 .f32) (main_arg7 : FVec F S7800x200 .f32) (main_arg8 : FVec F S200 .f32) (main_v13 : IVec S_ 1) (main_v16 : IVec S1521x200 1) : IVec S_ 1 :=
  let main_c_5 : IVec S_ 1 := constantI S_ 1 1#1
  let main_v17 : IVec S_ 1 := (fun x v => Host.reduce IntOp.andi x v reducesTo_S1521x200_S_d0_1 h_S_) main_v16 main_c_5
  let main_v18 : IVec S_ 1 := andi main_v13 main_v17
  let main_v19 : FVec F S200 .f32 := Host.absf main_arg6
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S7800x200 .f32 := Host.absf main_arg7
  let main_cst_8 : FVec F S_ .f32 := constant S_ .f32 0x7F800000#32
  let main_v25 : FVec F S7800x200 .f32 := broadcastInDim S7800x200 ![] bcast_S_S7800x200 main_cst_8
  let main_v26 : IVec S7800x200 1 := cmpf .olt main_v24 main_v25
  let main_c_9 : IVec S_ 1 := constantI S_ 1 1#1
  let main_v27 : IVec S_ 1 := (fun x v => Host.reduce IntOp.andi x v reducesTo_S7800x200_S_d0_1 h_S_) main_v26 main_c_9
  let main_v28 : IVec S_ 1 := andi main_v23 main_v27
  let main_v29 : FVec F S200 .f32 := Host.absf main_arg8
  let main_cst_10 : FVec F S_ .f32 := constant S_ .f32 0x7F800000#32
  let main_v30 : FVec F S200 .f32 := broadcastInDim S200 ![] bcast_S_S200 main_cst_10
  let main_v31 : IVec S200 1 := cmpf .olt main_v29 main_v30
  let main_c_11 : IVec S_ 1 := constantI S_ 1 1#1
  let main_v32 : IVec S_ 1 := (fun x v => Host.reduce IntOp.andi x v reducesTo_S200_S_d0 h_S_) main_v31 main_c_11
  let main_v33 : IVec S_ 1 := andi main_v28 main_v32
  main_v33

def fn {F : FTy → Type} [FloatOps F] (main_arg0 : FVec F S1024x26013 .f32) (main_arg1 : FVec F S26013x1 .f32) (main_arg2 : FVec F S1 .f32) (main_arg3 : FVec F S13x10 .f32) (main_arg4 : FVec F S26x1000x10 .f32) (main_arg5 : FVec F S1521x200 .f32) (main_arg6 : FVec F S200 .f32) (main_arg7 : FVec F S7800x200 .f32) (main_arg8 : FVec F S200 .f32) (main_arg9 : FVec F S7800x200 .f32) (main_arg10 : FVec F S200 .f32) (main_arg11 : FVec F S600x1 .f32) (main_arg12 : FVec F S1 .f32) (main_arg13 : FVec F S390x400 .f32) (main_arg14 : FVec F S400 .f32) (main_arg15 : FVec F S400x400 .f32) (main_arg16 : FVec F S400 .f32) (main_arg17 : FVec F S400x1 .f32) (main_arg18 : FVec F S1 .f32) (main_arg19 : FVec F S1 .f32) : IVec S_ 1 :=
  let main_v0 : FVec F S1024x26013 .f32 := Host.absf main_arg0
  let main_cst : FVec F S_ .f32 := constant S_ .f32 0x7F800000#32
  let main_v1 : FVec F S1024x26013 .f32 := broadcastInDim S1024x26013 ![] bcast_S_S1024x26013 main_cst
  let main_v2 : IVec S1024x26013 1 := cmpf .olt main_v0 main_v1
  let main_c : IVec S_ 1 := constantI S_ 1 1#1
  let main_v3 : IVec S_ 1 := (fun x v => Host.reduce IntOp.andi x v reducesTo_S1024x26013_S_d0_1 h_S_) main_v2 main_c
  let main_v4 : FVec F S13x10 .f32 := Host.absf main_arg3
  let main_cst_0 : FVec F S_ .f32 := constant S_ .f32 0x7F800000#32
  let main_v5 : FVec F S13x10 .f32 := broadcastInDim S13x10 ![] bcast_S_S13x10 main_cst_0
  let main_v6 : IVec S13x10 1 := cmpf .olt main_v4 main_v5
  let main_c_1 : IVec S_ 1 := constantI S_ 1 1#1
  let main_v7 : IVec S_ 1 := (fun x v => Host.reduce IntOp.andi x v reducesTo_S13x10_S_d0_1 h_S_) main_v6 main_c_1
  let main_v8 : IVec S_ 1 := andi main_v3 main_v7
  let main_v9 : FVec F S26x1000x10 .f32 := Host.absf main_arg4
  let main_cst_2 : FVec F S_ .f32 := constant S_ .f32 0x7F800000#32
  let main_v10 : FVec F S26x1000x10 .f32 := broadcastInDim S26x1000x10 ![] bcast_S_S26x1000x10 main_cst_2
  let main_v11 : IVec S26x1000x10 1 := cmpf .olt main_v9 main_v10
  let main_c_3 : IVec S_ 1 := constantI S_ 1 1#1
  let main_v12 : IVec S_ 1 := (fun x v => Host.reduce IntOp.andi x v reducesTo_S26x1000x10_S_d0_1_2 h_S_) main_v11 main_c_3
  let main_v13 : IVec S_ 1 := andi main_v8 main_v12
  let main_v14 : FVec F S1521x200 .f32 := Host.absf main_arg5
  let main_cst_4 : FVec F S_ .f32 := constant S_ .f32 0x7F800000#32
  let main_v15 : FVec F S1521x200 .f32 := broadcastInDim S1521x200 ![] bcast_S_S1521x200 main_cst_4
  let main_v16 : IVec S1521x200 1 := cmpf .olt main_v14 main_v15
  fn_part1 (F := F) main_arg6 main_arg7 main_arg8 main_v13 main_v16
-- ==== Kernel.lean ====
abbrev S1024x26013 : Shape := ⟨2, ![1024, 26013]⟩
abbrev S26013x1 : Shape := ⟨2, ![26013, 1]⟩
abbrev S1 : Shape := ⟨1, ![1]⟩
abbrev S13x10 : Shape := ⟨2, ![13, 10]⟩
abbrev S26x1000x10 : Shape := ⟨3, ![26, 1000, 10]⟩
abbrev S1521x200 : Shape := ⟨2, ![1521, 200]⟩
abbrev S200 : Shape := ⟨1, ![200]⟩
abbrev S7800x200 : Shape := ⟨2, ![7800, 200]⟩
abbrev S600x1 : Shape := ⟨2, ![600, 1]⟩
abbrev S390x400 : Shape := ⟨2, ![390, 400]⟩
abbrev S400 : Shape := ⟨1, ![400]⟩
abbrev S400x400 : Shape := ⟨2, ![400, 400]⟩
abbrev S400x1 : Shape := ⟨2, ![400, 1]⟩
abbrev S13x130 : Shape := ⟨2, ![13, 130]⟩
abbrev S39x10x10x128 : Shape := ⟨4, ![39, 10, 10, 128]⟩
abbrev S_ : Shape := ⟨0, ![]⟩
abbrev S390x1280 : Shape := ⟨2, ![390, 1280]⟩
abbrev S128x39x39 : Shape := ⟨3, ![128, 39, 39]⟩
abbrev S128x1521 : Shape := ⟨2, ![128, 1521]⟩
abbrev S128x39x200 : Shape := ⟨3, ![128, 39, 200]⟩
abbrev S128x7800 : Shape := ⟨2, ![128, 7800]⟩
abbrev S200x16x200 : Shape := ⟨3, ![200, 16, 200]⟩
abbrev S200x3200 : Shape := ⟨2, ![200, 3200]⟩
abbrev S256x1521 : Shape := ⟨2, ![256, 1521]⟩
abbrev S256x7800 : Shape := ⟨2, ![256, 7800]⟩
abbrev S400x3200 : Shape := ⟨2, ![400, 3200]⟩
abbrev S1x130 : Shape := ⟨2, ![1, 130]⟩
abbrev S1x200 : Shape := ⟨2, ![1, 200]⟩
abbrev S1x400 : Shape := ⟨2, ![1, 400]⟩
abbrev S1x1 : Shape := ⟨2, ![1, 1]⟩
abbrev S1024x391 : Shape := ⟨2, ![1024, 391]⟩
abbrev S1024x1 : Shape := ⟨2, ![1024, 1]⟩
abbrev S128x26013 : Shape := ⟨2, ![128, 26013]⟩
abbrev S128x391 : Shape := ⟨2, ![128, 391]⟩
abbrev S128x1 : Shape := ⟨2, ![128, 1]⟩
abbrev S128x13 : Shape := ⟨2, ![128, 13]⟩
abbrev S128x130 : Shape := ⟨2, ![128, 130]⟩
abbrev S128x1000 : Shape := ⟨2, ![128, 1000]⟩
abbrev S1x1000x10 : Shape := ⟨3, ![1, 1000, 10]⟩
abbrev S1000x10 : Shape := ⟨2, ![1000, 10]⟩
abbrev S128x10 : Shape := ⟨2, ![128, 10]⟩
abbrev S64x391 : Shape := ⟨2, ![64, 391]⟩
abbrev S64x1 : Shape := ⟨2, ![64, 1]⟩
abbrev S64x1280 : Shape := ⟨2, ![64, 1280]⟩
abbrev S640x128 : Shape := ⟨2, ![640, 128]⟩
abbrev S64x390 : Shape := ⟨2, ![64, 390]⟩
abbrev S64x128 : Shape := ⟨2, ![64, 128]⟩
abbrev S640x256 : Shape := ⟨2, ![640, 256]⟩
abbrev S640x1521 : Shape := ⟨2, ![640, 1521]⟩
abbrev S640x200 : Shape := ⟨2, ![640, 200]⟩
abbrev S640x400 : Shape := ⟨2, ![640, 400]⟩
abbrev S640x3200 : Shape := ⟨2, ![640, 3200]⟩
abbrev S256x3200 : Shape := ⟨2, ![256, 3200]⟩
abbrev S3200x200 : Shape := ⟨2, ![3200, 200]⟩
abbrev S256x1400 : Shape := ⟨2, ![256, 1400]⟩
abbrev S640x1400 : Shape := ⟨2, ![640, 1400]⟩
abbrev S1400x200 : Shape := ⟨2, ![1400, 200]⟩
abbrev S10x64x200 : Shape := ⟨3, ![10, 64, 200]⟩
abbrev S64x200 : Shape := ⟨2, ![64, 200]⟩
abbrev S64x600 : Shape := ⟨2, ![64, 600]⟩
abbrev S64x400 : Shape := ⟨2, ![64, 400]⟩

abbrev nBuf : Space → Nat
  | .hbm => 90
  | .vmem => 31
  | .smem => 1
  | _ => 0

abbrev bufTy : (tb : Table) → Fin (tcTables nBuf tb) → BufTy
  | .hbm, ⟨0, _⟩ => ⟨S1024x26013, .f32⟩
  | .hbm, ⟨1, _⟩ => ⟨S26013x1, .f32⟩
  | .hbm, ⟨2, _⟩ => ⟨S1, .f32⟩
  | .hbm, ⟨3, _⟩ => ⟨S13x10, .f32⟩
  | .hbm, ⟨4, _⟩ => ⟨S26x1000x10, .f32⟩
  | .hbm, ⟨5, _⟩ => ⟨S1521x200, .f32⟩
  | .hbm, ⟨6, _⟩ => ⟨S200, .f32⟩
  | .hbm, ⟨7, _⟩ => ⟨S7800x200, .f32⟩
  | .hbm, ⟨8, _⟩ => ⟨S200, .f32⟩
  | .hbm, ⟨9, _⟩ => ⟨S7800x200, .f32⟩
  | .hbm, ⟨10, _⟩ => ⟨S200, .f32⟩
  | .hbm, ⟨11, _⟩ => ⟨S600x1, .f32⟩
  | .hbm, ⟨12, _⟩ => ⟨S1, .f32⟩
  | .hbm, ⟨13, _⟩ => ⟨S390x400, .f32⟩
  | .hbm, ⟨14, _⟩ => ⟨S400, .f32⟩
  | .hbm, ⟨15, _⟩ => ⟨S400x400, .f32⟩
  | .hbm, ⟨16, _⟩ => ⟨S400, .f32⟩
  | .hbm, ⟨17, _⟩ => ⟨S400x1, .f32⟩
  | .hbm, ⟨18, _⟩ => ⟨S1, .f32⟩
  | .hbm, ⟨19, _⟩ => ⟨S1, .f32⟩
  | .hbm, ⟨20, _⟩ => ⟨S13x130, .f32⟩
  | .hbm, ⟨21, _⟩ => ⟨S39x10x10x128, .i32⟩
  | .hbm, ⟨22, _⟩ => ⟨S39x10x10x128, .i32⟩
  | .hbm, ⟨23, _⟩ => ⟨S39x10x10x128, .i1⟩
  | .hbm, ⟨24, _⟩ => ⟨S39x10x10x128, .i32⟩
  | .hbm, ⟨25, _⟩ => ⟨S39x10x10x128, .i32⟩
  | .hbm, ⟨26, _⟩ => ⟨S39x10x10x128, .i1⟩
  | .hbm, ⟨27, _⟩ => ⟨S39x10x10x128, .i1⟩
  | .hbm, ⟨28, _⟩ => ⟨S_, .f32⟩
  | .hbm, ⟨29, _⟩ => ⟨S_, .f32⟩
  | .hbm, ⟨30, _⟩ => ⟨S39x10x10x128, .f32⟩
  | .hbm, ⟨31, _⟩ => ⟨S39x10x10x128, .f32⟩
  | .hbm, ⟨32, _⟩ => ⟨S39x10x10x128, .f32⟩
  | .hbm, ⟨33, _⟩ => ⟨S390x1280, .f32⟩
  | .hbm, ⟨34, _⟩ => ⟨S128x39x39, .i32⟩
  | .hbm, ⟨35, _⟩ => ⟨S128x39x39, .i32⟩
  | .hbm, ⟨36, _⟩ => ⟨S128x39x39, .i1⟩
  | .hbm, ⟨37, _⟩ => ⟨S_, .f32⟩
  | .hbm, ⟨38, _⟩ => ⟨S_, .f32⟩
  | .hbm, ⟨39, _⟩ => ⟨S128x39x39, .f32⟩
  | .hbm, ⟨40, _⟩ => ⟨S128x39x39, .f32⟩
  | .hbm, ⟨41, _⟩ => ⟨S128x39x39, .f32⟩
  | .hbm, ⟨42, _⟩ => ⟨S128x1521, .f32⟩
  | .hbm, ⟨43, _⟩ => ⟨S128x1521, .bf16⟩
  | .hbm, ⟨44, _⟩ => ⟨S128x39x39, .i32⟩
  | .hbm, ⟨45, _⟩ => ⟨S128x39x39, .i32⟩
  | .hbm, ⟨46, _⟩ => ⟨S128x39x39, .i1⟩
  | .hbm, ⟨47, _⟩ => ⟨S_, .f32⟩
  | .hbm, ⟨48, _⟩ => ⟨S_, .f32⟩
  | .hbm, ⟨49, _⟩ => ⟨S128x39x39, .f32⟩
  | .hbm, ⟨50, _⟩ => ⟨S128x39x39, .f32⟩
  | .hbm, ⟨51, _⟩ => ⟨S128x39x39, .f32⟩
  | .hbm, ⟨52, _⟩ => ⟨S128x1521, .f32⟩
  | .hbm, ⟨53, _⟩ => ⟨S128x1521, .bf16⟩
  | .hbm, ⟨54, _⟩ => ⟨S128x39x200, .i32⟩
  | .hbm, ⟨55, _⟩ => ⟨S128x39x200, .i32⟩
  | .hbm, ⟨56, _⟩ => ⟨S128x39x200, .i1⟩
  | .hbm, ⟨57, _⟩ => ⟨S_, .f32⟩
  | .hbm, ⟨58, _⟩ => ⟨S_, .f32⟩
  | .hbm, ⟨59, _⟩ => ⟨S128x39x200, .f32⟩
  | .hbm, ⟨60, _⟩ => ⟨S128x39x200, .f32⟩
  | .hbm, ⟨61, _⟩ => ⟨S128x39x200, .f32⟩
  | .hbm, ⟨62, _⟩ => ⟨S128x7800, .f32⟩
  | .hbm, ⟨63, _⟩ => ⟨S128x7800, .bf16⟩
  | .hbm, ⟨64, _⟩ => ⟨S200x16x200, .i32⟩
  | .hbm, ⟨65, _⟩ => ⟨S200x16x200, .i32⟩
  | .hbm, ⟨66, _⟩ => ⟨S200x16x200, .i1⟩
  | .hbm, ⟨67, _⟩ => ⟨S_, .f32⟩
  | .hbm, ⟨68, _⟩ => ⟨S_, .f32⟩
  | .hbm, ⟨69, _⟩ => ⟨S200x16x200, .f32⟩
  | .hbm, ⟨70, _⟩ => ⟨S200x16x200, .f32⟩
  | .hbm, ⟨71, _⟩ => ⟨S200x16x200, .f32⟩
  | .hbm, ⟨72, _⟩ => ⟨S200x3200, .f32⟩
  | .hbm, ⟨73, _⟩ => ⟨S200x3200, .bf16⟩
  | .hbm, ⟨74, _⟩ => ⟨S256x1521, .bf16⟩
  | .hbm, ⟨75, _⟩ => ⟨S256x1521, .bf16⟩
  | .hbm, ⟨76, _⟩ => ⟨S256x7800, .bf16⟩
  | .hbm, ⟨77, _⟩ => ⟨S400x3200, .bf16⟩
  | .hbm, ⟨78, _⟩ => ⟨S1x130, .f32⟩
  | .hbm, ⟨79, _⟩ => ⟨S1x200, .f32⟩
  | .hbm, ⟨80, _⟩ => ⟨S1x200, .f32⟩
  | .hbm, ⟨81, _⟩ => ⟨S1x200, .f32⟩
  | .hbm, ⟨82, _⟩ => ⟨S1x400, .f32⟩
  | .hbm, ⟨83, _⟩ => ⟨S1x400, .f32⟩
  | .hbm, ⟨84, _⟩ => ⟨S1, .f32⟩
  | .hbm, ⟨85, _⟩ => ⟨S1, .f32⟩
  | .hbm, ⟨86, _⟩ => ⟨S1, .f32⟩
  | .hbm, ⟨87, _⟩ => ⟨S1x1, .f32⟩
  | .hbm, ⟨88, _⟩ => ⟨S1024x391, .f32⟩
  | .hbm, ⟨89, _⟩ => ⟨S1024x1, .f32⟩
  | .local _ .vmem, ⟨0, _⟩ => ⟨S128x26013, .f32⟩
  | .local _ .vmem, ⟨1, _⟩ => ⟨S128x26013, .f32⟩
  | .local _ .vmem, ⟨2, _⟩ => ⟨S26013x1, .f32⟩
  | .local _ .vmem, ⟨3, _⟩ => ⟨S26x1000x10, .f32⟩
  | .local _ .vmem, ⟨4, _⟩ => ⟨S13x130, .f32⟩
  | .local _ .vmem, ⟨5, _⟩ => ⟨S1x130, .f32⟩
  | .local _ .vmem, ⟨6, _⟩ => ⟨S128x391, .f32⟩
  | .local _ .vmem, ⟨7, _⟩ => ⟨S128x391, .f32⟩
  | .local _ .vmem, ⟨8, _⟩ => ⟨S64x391, .f32⟩
  | .local _ .vmem, ⟨9, _⟩ => ⟨S64x391, .f32⟩
  | .local _ .vmem, ⟨10, _⟩ => ⟨S1521x200, .f32⟩
  | .local _ .vmem, ⟨11, _⟩ => ⟨S1x200, .f32⟩
  | .local _ .vmem, ⟨12, _⟩ => ⟨S7800x200, .f32⟩
  | .local _ .vmem, ⟨13, _⟩ => ⟨S1x200, .f32⟩
  | .local _ .vmem, ⟨14, _⟩ => ⟨S7800x200, .f32⟩
  | .local _ .vmem, ⟨15, _⟩ => ⟨S1x200, .f32⟩
  | .local _ .vmem, ⟨16, _⟩ => ⟨S600x1, .f32⟩
  | .local _ .vmem, ⟨17, _⟩ => ⟨S390x400, .f32⟩
  | .local _ .vmem, ⟨18, _⟩ => ⟨S1x400, .f32⟩
  | .local _ .vmem, ⟨19, _⟩ => ⟨S400x400, .f32⟩
  | .local _ .vmem, ⟨20, _⟩ => ⟨S1x400, .f32⟩
  | .local _ .vmem, ⟨21, _⟩ => ⟨S400x1, .f32⟩
  | .local _ .vmem, ⟨22, _⟩ => ⟨S390x1280, .f32⟩
  | .local _ .vmem, ⟨23, _⟩ => ⟨S256x1521, .bf16⟩
  | .local _ .vmem, ⟨24, _⟩ => ⟨S256x1521, .bf16⟩
  | .local _ .vmem, ⟨25, _⟩ => ⟨S256x7800, .bf16⟩
  | .local _ .vmem, ⟨26, _⟩ => ⟨S400x3200, .bf16⟩
  | .local _ .vmem, ⟨27, _⟩ => ⟨S64x1, .f32⟩
  | .local _ .vmem, ⟨28, _⟩ => ⟨S64x1, .f32⟩
  | .local _ .vmem, ⟨29, _⟩ => ⟨S64x1280, .f32⟩
  | .local _ .vmem, ⟨30, _⟩ => ⟨S640x128, .f32⟩
  | .local _ .smem, ⟨0, _⟩ => ⟨S1x1, .f32⟩
  | _, _ => ⟨S1024x26013, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_0 : Ref sig .tc := ⟨.hbm, 28, rfl⟩
abbrev main_call0_cst_1 : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_cst_2 : Ref sig .tc := ⟨.hbm, 37, rfl⟩
abbrev main_call0_cst_3 : Ref sig .tc := ⟨.hbm, 38, rfl⟩
abbrev main_call0_call1_v0 : Ref sig .tc := ⟨.hbm, 39, rfl⟩
abbrev main_call0_call1_v1 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_v15 : Ref sig .tc := ⟨.hbm, 44, rfl⟩
abbrev main_call0_v16 : Ref sig .tc := ⟨.hbm, 45, rfl⟩
abbrev main_call0_v17 : Ref sig .tc := ⟨.hbm, 46, rfl⟩
abbrev main_call0_cst_4 : Ref sig .tc := ⟨.hbm, 47, rfl⟩
abbrev main_call0_cst_5 : Ref sig .tc := ⟨.hbm, 48, rfl⟩
abbrev main_call0_call2_v0 : Ref sig .tc := ⟨.hbm, 49, rfl⟩
abbrev main_call0_call2_v1 : Ref sig .tc := ⟨.hbm, 50, rfl⟩
abbrev main_call0_v18 : Ref sig .tc := ⟨.hbm, 51, rfl⟩
abbrev main_call0_v19 : Ref sig .tc := ⟨.hbm, 52, rfl⟩
abbrev main_call0_v20 : Ref sig .tc := ⟨.hbm, 53, rfl⟩
abbrev main_call0_v21 : Ref sig .tc := ⟨.hbm, 54, rfl⟩
abbrev main_call0_v22 : Ref sig .tc := ⟨.hbm, 55, rfl⟩
abbrev main_call0_v23 : Ref sig .tc := ⟨.hbm, 56, rfl⟩
abbrev main_call0_cst_6 : Ref sig .tc := ⟨.hbm, 57, rfl⟩
abbrev main_call0_cst_7 : Ref sig .tc := ⟨.hbm, 58, rfl⟩
abbrev main_call0_call3_v0 : Ref sig .tc := ⟨.hbm, 59, rfl⟩
abbrev main_call0_call3_v1 : Ref sig .tc := ⟨.hbm, 60, rfl⟩
abbrev main_call0_v24 : Ref sig .tc := ⟨.hbm, 61, rfl⟩
abbrev main_call0_v25 : Ref sig .tc := ⟨.hbm, 62, rfl⟩
abbrev main_call0_v26 : Ref sig .tc := ⟨.hbm, 63, rfl⟩
abbrev main_call0_v27 : Ref sig .tc := ⟨.hbm, 64, rfl⟩
abbrev main_call0_v28 : Ref sig .tc := ⟨.hbm, 65, rfl⟩
abbrev main_call0_v29 : Ref sig .tc := ⟨.hbm, 66, rfl⟩
abbrev main_call0_cst_8 : Ref sig .tc := ⟨.hbm, 67, rfl⟩
abbrev main_call0_cst_9 : Ref sig .tc := ⟨.hbm, 68, rfl⟩
abbrev main_call0_call4_v0 : Ref sig .tc := ⟨.hbm, 69, rfl⟩
abbrev main_call0_call4_v1 : Ref sig .tc := ⟨.hbm, 70, rfl⟩
abbrev main_call0_v30 : Ref sig .tc := ⟨.hbm, 71, rfl⟩
abbrev main_call0_v31 : Ref sig .tc := ⟨.hbm, 72, rfl⟩
abbrev main_call0_v32 : Ref sig .tc := ⟨.hbm, 73, rfl⟩
abbrev main_call0_v33 : Ref sig .tc := ⟨.hbm, 74, rfl⟩
abbrev main_call0_v34 : Ref sig .tc := ⟨.hbm, 75, rfl⟩
abbrev main_call0_v35 : Ref sig .tc := ⟨.hbm, 76, rfl⟩
abbrev main_call0_v36 : Ref sig .tc := ⟨.hbm, 77, rfl⟩
abbrev main_call0_v37 : Ref sig .tc := ⟨.hbm, 78, rfl⟩
abbrev main_call0_v38 : Ref sig .tc := ⟨.hbm, 79, rfl⟩
abbrev main_call0_v39 : Ref sig .tc := ⟨.hbm, 80, rfl⟩
abbrev main_call0_v40 : Ref sig .tc := ⟨.hbm, 81, rfl⟩
abbrev main_call0_v41 : Ref sig .tc := ⟨.hbm, 82, rfl⟩
abbrev main_call0_v42 : Ref sig .tc := ⟨.hbm, 83, rfl⟩
abbrev main_call0_v43 : Ref sig .tc := ⟨.hbm, 84, rfl⟩
abbrev main_call0_v44 : Ref sig .tc := ⟨.hbm, 85, rfl⟩
abbrev main_call0_v45 : Ref sig .tc := ⟨.hbm, 86, rfl⟩
abbrev main_call0_v46 : Ref sig .tc := ⟨.hbm, 87, rfl⟩
abbrev main_call0_v47 : Ref sig .tc := ⟨.hbm, 88, rfl⟩
abbrev main_v0 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg16_0 : Ref sig .tc := ⟨.vmem, 25, rfl⟩
abbrev cc1_stg17_0 : Ref sig .tc := ⟨.vmem, 26, rfl⟩
abbrev cc1_stg19_0 : Ref sig .tc := ⟨.vmem, 27, rfl⟩
abbrev cc1_stg19_1 : Ref sig .tc := ⟨.vmem, 28, rfl⟩
abbrev cc1_scratch0 : Ref sig .tc := ⟨.vmem, 29, rfl⟩
abbrev cc1_scratch1 : Ref sig .tc := ⟨.vmem, 30, rfl⟩
abbrev cc1_stg18_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem15_0 : DmaSem sig := 24
abbrev cc1_sem16_0 : DmaSem sig := 25
abbrev cc1_sem17_0 : DmaSem sig := 26
abbrev cc1_sem18_0 : DmaSem sig := 27
abbrev cc1_sem19_0 : DmaSem sig := 28
abbrev cc1_sem19_1 : DmaSem sig := 29

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x26013 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S26013x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S26x1000x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S13x130 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x130 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x391 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x391 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1521x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S7800x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S7800x200 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x200 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S600x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S390x400 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x400 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S400x400 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x400 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S400x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S390x1280 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x1521 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S256x1521 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S256x7800 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S400x3200 .bf16 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .smem S1x1 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 2 → Memref sig .tc .vmem S64x1 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]
-- ==== KernelIdeal.lean ====
variable {F : FTy → Type} [FloatOps F]
-- ==== ReferenceIdeal.lean ====
abbrev S1024x26013 : Shape := ⟨2, ![1024, 26013]⟩
abbrev S26013x1 : Shape := ⟨2, ![26013, 1]⟩
abbrev S1 : Shape := ⟨1, ![1]⟩
abbrev S13x10 : Shape := ⟨2, ![13, 10]⟩
abbrev S26x1000x10 : Shape := ⟨3, ![26, 1000, 10]⟩
abbrev S1521x200 : Shape := ⟨2, ![1521, 200]⟩
abbrev S200 : Shape := ⟨1, ![200]⟩
abbrev S7800x200 : Shape := ⟨2, ![7800, 200]⟩
abbrev S600x1 : Shape := ⟨2, ![600, 1]⟩
abbrev S390x400 : Shape := ⟨2, ![390, 400]⟩
abbrev S400 : Shape := ⟨1, ![400]⟩
abbrev S400x400 : Shape := ⟨2, ![400, 400]⟩
abbrev S400x1 : Shape := ⟨2, ![400, 1]⟩
abbrev S1024x1 : Shape := ⟨2, ![1024, 1]⟩
abbrev S1x1 : Shape := ⟨2, ![1, 1]⟩
abbrev S1024x13 : Shape := ⟨2, ![1024, 13]⟩
abbrev S1024x13x1 : Shape := ⟨3, ![1024, 13, 1]⟩
abbrev S1x13x10 : Shape := ⟨3, ![1, 13, 10]⟩
abbrev S1024x13x10 : Shape := ⟨3, ![1024, 13, 10]⟩
abbrev S1024x26000 : Shape := ⟨2, ![1024, 26000]⟩
abbrev S1024x26x1000 : Shape := ⟨3, ![1024, 26, 1000]⟩
abbrev S26x10x1024 : Shape := ⟨3, ![26, 10, 1024]⟩
abbrev S1024x26x10 : Shape := ⟨3, ![1024, 26, 10]⟩
abbrev S1024x39x10 : Shape := ⟨3, ![1024, 39, 10]⟩
abbrev S1024x39x1x10 : Shape := ⟨4, ![1024, 39, 1, 10]⟩
abbrev S1024x1x39x10 : Shape := ⟨4, ![1024, 1, 39, 10]⟩
abbrev S1024x39x39x10 : Shape := ⟨4, ![1024, 39, 39, 10]⟩
abbrev S1024x1521x10 : Shape := ⟨3, ![1024, 1521, 10]⟩
abbrev S200x1024x10 : Shape := ⟨3, ![200, 1024, 10]⟩
abbrev S1024x200x10 : Shape := ⟨3, ![1024, 200, 10]⟩
abbrev S1x200x1 : Shape := ⟨3, ![1, 200, 1]⟩
abbrev S_ : Shape := ⟨0, ![]⟩
abbrev S1024x200 : Shape := ⟨2, ![1024, 200]⟩
abbrev S1024x1x200x10 : Shape := ⟨4, ![1024, 1, 200, 10]⟩
abbrev S1024x39x200x10 : Shape := ⟨4, ![1024, 39, 200, 10]⟩
abbrev S1024x7800x10 : Shape := ⟨3, ![1024, 7800, 10]⟩
abbrev S1024x600 : Shape := ⟨2, ![1024, 600]⟩
abbrev S1024x390 : Shape := ⟨2, ![1024, 390]⟩
abbrev S1024x400 : Shape := ⟨2, ![1024, 400]⟩
abbrev S1x400 : Shape := ⟨2, ![1, 400]⟩

abbrev nBuf : Space → Nat
  | .hbm => 111
  | .vmem => 0
  | .smem => 0
  | _ => 0

abbrev bufTy : (tb : Table) → Fin (tcTables nBuf tb) → BufTy
  | .hbm, ⟨0, _⟩ => ⟨S1024x26013, .f32⟩
  | .hbm, ⟨1, _⟩ => ⟨S26013x1, .f32⟩
  | .hbm, ⟨2, _⟩ => ⟨S1, .f32⟩
  | .hbm, ⟨3, _⟩ => ⟨S13x10, .f32⟩
  | .hbm, ⟨4, _⟩ => ⟨S26x1000x10, .f32⟩
  | .hbm, ⟨5, _⟩ => ⟨S1521x200, .f32⟩
  | .hbm, ⟨6, _⟩ => ⟨S200, .f32⟩
  | .hbm, ⟨7, _⟩ => ⟨S7800x200, .f32⟩
  | .hbm, ⟨8, _⟩ => ⟨S200, .f32⟩
  | .hbm, ⟨9, _⟩ => ⟨S7800x200, .f32⟩
  | .hbm, ⟨10, _⟩ => ⟨S200, .f32⟩
  | .hbm, ⟨11, _⟩ => ⟨S600x1, .f32⟩
  | .hbm, ⟨12, _⟩ => ⟨S1, .f32⟩
  | .hbm, ⟨13, _⟩ => ⟨S390x400, .f32⟩
  | .hbm, ⟨14, _⟩ => ⟨S400, .f32⟩
  | .hbm, ⟨15, _⟩ => ⟨S400x400, .f32⟩
  | .hbm, ⟨16, _⟩ => ⟨S400, .f32⟩
  | .hbm, ⟨17, _⟩ => ⟨S400x1, .f32⟩
  | .hbm, ⟨18, _⟩ => ⟨S1, .f32⟩
  | .hbm, ⟨19, _⟩ => ⟨S1, .f32⟩
  | .hbm, ⟨20, _⟩ => ⟨S1024x1, .f32⟩
  | .hbm, ⟨21, _⟩ => ⟨S1x1, .f32⟩
  | .hbm, ⟨22, _⟩ => ⟨S1024x1, .f32⟩
  | .hbm, ⟨23, _⟩ => ⟨S1024x1, .f32⟩
  | .hbm, ⟨24, _⟩ => ⟨S1024x13, .f32⟩
  | .hbm, ⟨25, _⟩ => ⟨S1024x13x1, .f32⟩
  | .hbm, ⟨26, _⟩ => ⟨S1x13x10, .f32⟩
  | .hbm, ⟨27, _⟩ => ⟨S1024x13x10, .f32⟩
  | .hbm, ⟨28, _⟩ => ⟨S1024x13x10, .f32⟩
  | .hbm, ⟨29, _⟩ => ⟨S1024x13x10, .f32⟩
  | .hbm, ⟨30, _⟩ => ⟨S1024x26000, .f32⟩
  | .hbm, ⟨31, _⟩ => ⟨S1024x26x1000, .f32⟩
  | .hbm, ⟨32, _⟩ => ⟨S26x10x1024, .f32⟩
  | .hbm, ⟨33, _⟩ => ⟨S1024x26x10, .f32⟩
  | .hbm, ⟨34, _⟩ => ⟨S1024x39x10, .f32⟩
  | .hbm, ⟨35, _⟩ => ⟨S1024x39x1x10, .f32⟩
  | .hbm, ⟨36, _⟩ => ⟨S1024x1x39x10, .f32⟩
  | .hbm, ⟨37, _⟩ => ⟨S1024x39x39x10, .f32⟩
  | .hbm, ⟨38, _⟩ => ⟨S1024x39x39x10, .f32⟩
  | .hbm, ⟨39, _⟩ => ⟨S1024x39x39x10, .f32⟩
  | .hbm, ⟨40, _⟩ => ⟨S1024x1521x10, .f32⟩
  | .hbm, ⟨41, _⟩ => ⟨S200x1024x10, .f32⟩
  | .hbm, ⟨42, _⟩ => ⟨S1024x200x10, .f32⟩
  | .hbm, ⟨43, _⟩ => ⟨S1x200x1, .f32⟩
  | .hbm, ⟨44, _⟩ => ⟨S1024x200x10, .f32⟩
  | .hbm, ⟨45, _⟩ => ⟨S1024x200x10, .f32⟩
  | .hbm, ⟨46, _⟩ => ⟨S_, .f32⟩
  | .hbm, ⟨47, _⟩ => ⟨S1024x200, .f32⟩
  | .hbm, ⟨48, _⟩ => ⟨S1024x39x1x10, .f32⟩
  | .hbm, ⟨49, _⟩ => ⟨S1024x1x200x10, .f32⟩
  | .hbm, ⟨50, _⟩ => ⟨S1024x39x200x10, .f32⟩
  | .hbm, ⟨51, _⟩ => ⟨S1024x39x200x10, .f32⟩
  | .hbm, ⟨52, _⟩ => ⟨S1024x39x200x10, .f32⟩
  | .hbm, ⟨53, _⟩ => ⟨S1024x7800x10, .f32⟩
  | .hbm, ⟨54, _⟩ => ⟨S200x1024x10, .f32⟩
  | .hbm, ⟨55, _⟩ => ⟨S1024x200x10, .f32⟩
  | .hbm, ⟨56, _⟩ => ⟨S1x200x1, .f32⟩
  | .hbm, ⟨57, _⟩ => ⟨S1024x200x10, .f32⟩
  | .hbm, ⟨58, _⟩ => ⟨S1024x200x10, .f32⟩
  | .hbm, ⟨59, _⟩ => ⟨S_, .f32⟩
  | .hbm, ⟨60, _⟩ => ⟨S1024x200, .f32⟩
  | .hbm, ⟨61, _⟩ => ⟨S1024x39x1x10, .f32⟩
  | .hbm, ⟨62, _⟩ => ⟨S1024x1x200x10, .f32⟩
  | .hbm, ⟨63, _⟩ => ⟨S1024x39x200x10, .f32⟩
  | .hbm, ⟨64, _⟩ => ⟨S1024x39x200x10, .f32⟩
  | .hbm, ⟨65, _⟩ => ⟨S1024x39x200x10, .f32⟩
  | .hbm, ⟨66, _⟩ => ⟨S1024x7800x10, .f32⟩
  | .hbm, ⟨67, _⟩ => ⟨S200x1024x10, .f32⟩
  | .hbm, ⟨68, _⟩ => ⟨S1024x200x10, .f32⟩
  | .hbm, ⟨69, _⟩ => ⟨S1x200x1, .f32⟩
  | .hbm, ⟨70, _⟩ => ⟨S1024x200x10, .f32⟩
  | .hbm, ⟨71, _⟩ => ⟨S1024x200x10, .f32⟩
  | .hbm, ⟨72, _⟩ => ⟨S_, .f32⟩
  | .hbm, ⟨73, _⟩ => ⟨S1024x200, .f32⟩
  | .hbm, ⟨74, _⟩ => ⟨S1024x600, .f32⟩
  | .hbm, ⟨75, _⟩ => ⟨S1024x1, .f32⟩
  | .hbm, ⟨76, _⟩ => ⟨S1x1, .f32⟩
  | .hbm, ⟨77, _⟩ => ⟨S1024x1, .f32⟩
  | .hbm, ⟨78, _⟩ => ⟨S1024x1, .f32⟩
  | .hbm, ⟨79, _⟩ => ⟨S1024x390, .f32⟩
  | .hbm, ⟨80, _⟩ => ⟨S1024x400, .f32⟩
  | .hbm, ⟨81, _⟩ => ⟨S1x400, .f32⟩
  | .hbm, ⟨82, _⟩ => ⟨S1024x400, .f32⟩
  | .hbm, ⟨83, _⟩ => ⟨S1024x400, .f32⟩
  | .hbm, ⟨84, _⟩ => ⟨S_, .f32⟩
  | .hbm, ⟨85, _⟩ => ⟨S1024x400, .f32⟩
  | .hbm, ⟨86, _⟩ => ⟨S1024x400, .f32⟩
  | .hbm, ⟨87, _⟩ => ⟨S1024x400, .f32⟩
  | .hbm, ⟨88, _⟩ => ⟨S1x400, .f32⟩
  | .hbm, ⟨89, _⟩ => ⟨S1024x400, .f32⟩
  | .hbm, ⟨90, _⟩ => ⟨S1024x400, .f32⟩
  | .hbm, ⟨91, _⟩ => ⟨S_, .f32⟩
  | .hbm, ⟨92, _⟩ => ⟨S1024x400, .f32⟩
  | .hbm, ⟨93, _⟩ => ⟨S1024x400, .f32⟩
  | .hbm, ⟨94, _⟩ => ⟨S1024x1, .f32⟩
  | .hbm, ⟨95, _⟩ => ⟨S1x1, .f32⟩
  | .hbm, ⟨96, _⟩ => ⟨S1024x1, .f32⟩
  | .hbm, ⟨97, _⟩ => ⟨S1024x1, .f32⟩
  | .hbm, ⟨98, _⟩ => ⟨S1024x1, .f32⟩
  | .hbm, ⟨99, _⟩ => ⟨S1024x1, .f32⟩
  | .hbm, ⟨100, _⟩ => ⟨S1x1, .f32⟩
  | .hbm, ⟨101, _⟩ => ⟨S1024x1, .f32⟩
  | .hbm, ⟨102, _⟩ => ⟨S1024x1, .f32⟩
  | .hbm, ⟨103, _⟩ => ⟨S1024x1, .f32⟩
  | .hbm, ⟨104, _⟩ => ⟨S1024x1, .f32⟩
  | .hbm, ⟨105, _⟩ => ⟨S_, .f32⟩
  | .hbm, ⟨106, _⟩ => ⟨S1024x1, .f32⟩
  | .hbm, ⟨107, _⟩ => ⟨S1024x1, .f32⟩
  | .hbm, ⟨108, _⟩ => ⟨S_, .f32⟩
  | .hbm, ⟨109, _⟩ => ⟨S1024x1, .f32⟩
  | .hbm, ⟨110, _⟩ => ⟨S1024x1, .f32⟩
  | _, _ => ⟨S1024x26013, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_1 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call0_cst : Ref sig .tc := ⟨.hbm, 84, rfl⟩
abbrev main_call0_v0 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call1_cst : Ref sig .tc := ⟨.hbm, 91, rfl⟩
abbrev main_call1_v0 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_2 : Ref sig .tc := ⟨.hbm, 105, rfl⟩
abbrev main_v78 : Ref sig .tc := ⟨.hbm, 106, rfl⟩
abbrev main_v79 : Ref sig .tc := ⟨.hbm, 107, rfl⟩
abbrev main_cst_3 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]
-- ==== Proof.IdealEmbed.lean ====
/- The first call (the embeddings) of the idealized program: what its body does at a grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of the window `w` at grid point `t` of call 0: the part of the window's array that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input window 0 of call 0 holds the window's block when the body starts at a point, whether or not it was fetched at that point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of input window 1 of call 0 holds the window's block when the body starts at a point, whether or not it was fetched at that point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of input window 2 of call 0 holds the window's block when the body starts at a point, whether or not it was fetched at that point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of input window 3 of call 0 holds the window's block when the body starts at a point, whether or not it was fetched at that point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- The staging buffer of input window 4 of call 0 holds the window's block when the body starts at a point, whether or not it was fetched at that point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The buffer through which the stored contents of output window 5 of call 0 are read. -/
abbrev VO0_5 : View sig .tc .vmem S128x391 .f32 := (Memref.whole cc0_stg5_0 : Memref sig .tc .vmem S128x391 .f32).view
/-- The staging buffer of window 0 of call 0 that grid point `t` uses. -/
abbrev ms0_0 (t : Fin cfg0.N) : Memref sig .tc .vmem S128x26013 .f32 := win0_0.stage (cfg0.slots t 0)
/-- That staging buffer is a whole buffer. -/
abbrev hs0_0 (t : Fin cfg0.N) : (ms0_0 t).IsWhole := hstage0_0 ((cfg0.slots t 0).cast nbuf0_0)
/-- The staging buffer of window 1 of call 0 that grid point `t` uses. -/
abbrev ms0_1 (t : Fin cfg0.N) : Memref sig .tc .vmem S26013x1 .f32 := win0_1.stage (cfg0.slots t 1)
/-- That staging buffer is a whole buffer. -/
abbrev hs0_1 (t : Fin cfg0.N) : (ms0_1 t).IsWhole := hstage0_1 ((cfg0.slots t 1).cast nbuf0_1)
/-- The staging buffer of window 2 of call 0 that grid point `t` uses. -/
abbrev ms0_2 (t : Fin cfg0.N) : Memref sig .tc .vmem S26x1000x10 .f32 := win0_2.stage (cfg0.slots t 2)
/-- That staging buffer is a whole buffer. -/
abbrev hs0_2 (t : Fin cfg0.N) : (ms0_2 t).IsWhole := hstage0_2 ((cfg0.slots t 2).cast nbuf0_2)
/-- The staging buffer of window 3 of call 0 that grid point `t` uses. -/
abbrev ms0_3 (t : Fin cfg0.N) : Memref sig .tc .vmem S13x130 .f32 := win0_3.stage (cfg0.slots t 3)
/-- That staging buffer is a whole buffer. -/
abbrev hs0_3 (t : Fin cfg0.N) : (ms0_3 t).IsWhole := hstage0_3 ((cfg0.slots t 3).cast nbuf0_3)
/-- The staging buffer of window 4 of call 0 that grid point `t` uses. -/
abbrev ms0_4 (t : Fin cfg0.N) : Memref sig .tc .vmem S1x130 .f32 := win0_4.stage (cfg0.slots t 4)
/-- That staging buffer is a whole buffer. -/
abbrev hs0_4 (t : Fin cfg0.N) : (ms0_4 t).IsWhole := hstage0_4 ((cfg0.slots t 4).cast nbuf0_4)
/-- The staging buffer of window 5 of call 0 that grid point `t` uses. -/
abbrev ms0_5 (t : Fin cfg0.N) : Memref sig .tc .vmem S128x391 .f32 := win0_5.stage (cfg0.slots t 5)
/-- That staging buffer is a whole buffer. -/
abbrev hs0_5 (t : Fin cfg0.N) : (ms0_5 t).IsWhole := hstage0_5 ((cfg0.slots t 5).cast nbuf0_5)

set_option maxHeartbeats 8000000 in
/-- The body of call 0, run once: the pieces that it stores into its output (and leaves in its scratch), with the proof that from the inputs' contents it ends holding the inputs as they were and the output with those pieces written. -/
noncomputable def kernelRun0_A (c : Dev nD) (i : grid0.Coords) (arg1 : Memref sig .tc .vmem S128x26013 .f32) (harg1 : arg1.IsWhole) (arg2 : Memref sig .tc .vmem S26013x1 .f32) (harg2 : arg2.IsWhole) (arg3 : Memref sig .tc .vmem S26x1000x10 .f32) (harg3 : arg3.IsWhole) (arg4 : Memref sig .tc .vmem S13x130 .f32) (harg4 : arg4.IsWhole) (arg5 : Memref sig .tc .vmem S1x130 .f32) (harg5 : arg5.IsWhole) (arg6 : Memref sig .tc .vmem S128x391 .f32) (harg6 : arg6.IsWhole)
    (x0 : Vec F S128x26013 .f32) (x1 : Vec F S26013x1 .f32) (x2 : Vec F S26x1000x10 .f32) (x3 : Vec F S13x130 .f32) (x4 : Vec F S1x130 .f32) :
    { L5 : List (View.Piece (Elt F) S128x391 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0_xdeepfm_embed i arg1 harg1 arg2 harg2 arg3 harg3 arg4 harg4 arg5 harg5 arg6 harg6) K } := by
  refine ⟨?_, fun E K => ?run⟩
  case run =>
    simp only [cc0_xdeepfm_embed_eq_skeleton]; unfold cc0_xdeepfm_embed_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The stored pieces of output window 5 of call 0 cover its whole block. -/
theorem cover0_A_5 (c : Dev nD) (i : grid0.Coords) (arg1 : Memref sig .tc .vmem S128x26013 .f32) (harg1 : arg1.IsWhole) (arg2 : Memref sig .tc .vmem S26013x1 .f32) (harg2 : arg2.IsWhole) (arg3 : Memref sig .tc .vmem S26x1000x10 .f32) (harg3 : arg3.IsWhole) (arg4 : Memref sig .tc .vmem S13x130 .f32) (harg4 : arg4.IsWhole) (arg5 : Memref sig .tc .vmem S1x130 .f32) (harg5 : arg5.IsWhole) (arg6 : Memref sig .tc .vmem S128x391 .f32) (harg6 : arg6.IsWhole)
    (x0 : Vec F S128x26013 .f32) (x1 : Vec F S26013x1 .f32) (x2 : Vec F S26x1000x10 .f32) (x3 : Vec F S13x130 .f32) (x4 : Vec F S1x130 .f32) (y : S128x391.Idx) :
    ∃ pc ∈ (kernelRun0_A c i arg1 harg1 arg2 harg2 arg3 harg3 arg4 harg4 arg5 harg5 arg6 harg6 x0 x1 x2 x3 x4).1, y ∈ pc.1.set :=
  View.cover_of_tiledBy (kernelRun0_A c i arg1 harg1 arg2 harg2 arg3 harg3 arg4 harg4 arg5 harg5 arg6 harg6 x0 x1 x2 x3 x4).1 ![128, 1] (by sl_kernel_rfl) y

/-- What the body of call 0 leaves in the block of output window 5. -/
def out0_A_5 (c : Dev nD) (i : grid0.Coords) (arg1 : Memref sig .tc .vmem S128x26013 .f32) (harg1 : arg1.IsWhole) (arg2 : Memref sig .tc .vmem S26013x1 .f32) (harg2 : arg2.IsWhole) (arg3 : Memref sig .tc .vmem S26x1000x10 .f32) (harg3 : arg3.IsWhole) (arg4 : Memref sig .tc .vmem S13x130 .f32) (harg4 : arg4.IsWhole) (arg5 : Memref sig .tc .vmem S1x130 .f32) (harg5 : arg5.IsWhole) (arg6 : Memref sig .tc .vmem S128x391 .f32) (harg6 : arg6.IsWhole)
    (x0 : Vec F S128x26013 .f32) (x1 : Vec F S26013x1 .f32) (x2 : Vec F S26x1000x10 .f32) (x3 : Vec F S13x130 .f32) (x4 : Vec F S1x130 .f32) : Vec F S128x391 .f32 :=
  VO0_5.read (Elt F) (VO0_5.writes (Elt F) VO0_5.junk (kernelRun0_A c i arg1 harg1 arg2 harg2 arg3 harg3 arg4 harg4 arg5 harg5 arg6 harg6 x0 x1 x2 x3 x4).1)

/-- What the body of call 0 leaves in its output block at grid point `t`. -/
def outsAt0 (c : Dev nD) (t : Fin cfg0.N) : Vec F S128x391 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) (iblk0 V c 4 t)

/-- The data of the proof for call 0: the arrays as the call finds them, and what every staging buffer holds after the body at each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t)
  Φ _ := Pipeline.ΦA spec0 c
  q _ := fullShare
  owed _ := 0

/-- The arrays of call 0 are as the call finds them. -/
theorem A_eq0 (c : Dev nD) (w : Fin cfg0.W) : (dat0 V c).A w = V c (Pipeline.arrRef spec0 w) := by
  dsimp only [dat0]

/-- What the staging buffer of window 0 of call 0 holds after the body. -/
theorem after0_0 (c : Dev nD) (t : Fin cfg0.N) : (dat0 V c).after 0 t = iblk0 V c 0 t := by dsimp only [dat0]
/-- What the staging buffer of window 1 of call 0 holds after the body. -/
theorem after0_1 (c : Dev nD) (t : Fin cfg0.N) : (dat0 V c).after 1 t = iblk0 V c 1 t := by dsimp only [dat0]
/-- What the staging buffer of window 2 of call 0 holds after the body. -/
theorem after0_2 (c : Dev nD) (t : Fin cfg0.N) : (dat0 V c).after 2 t = iblk0 V c 2 t := by dsimp only [dat0]
/-- What the staging buffer of window 3 of call 0 holds after the body. -/
theorem after0_3 (c : Dev nD) (t : Fin cfg0.N) : (dat0 V c).after 3 t = iblk0 V c 3 t := by dsimp only [dat0]
/-- What the staging buffer of window 4 of call 0 holds after the body. -/
theorem after0_4 (c : Dev nD) (t : Fin cfg0.N) : (dat0 V c).after 4 t = iblk0 V c 4 t := by dsimp only [dat0]
/-- What the staging buffer of window 5 of call 0 holds after the body. -/
theorem after0_5 (c : Dev nD) (t : Fin cfg0.N) : (dat0 V c).after 5 t = (outsAt0 V c t) := by dsimp only [dat0]

/-- The staging buffer of input window 0 of call 0 holds its block when the body starts. -/
theorem before0_0 (c : Dev nD) (t : Fin cfg0.N) (d) : (dat0 V c).before 0 t d = iblk0 V c 0 t :=
  before0_0_of V (dat0 V c) (A_eq0 V c 0) (after0_0 V c) t d
/-- The staging buffer of input window 1 of call 0 holds its block when the body starts. -/
theorem before0_1 (c : Dev nD) (t : Fin cfg0.N) (d) : (dat0 V c).before 1 t d = iblk0 V c 1 t :=
  before0_1_of V (dat0 V c) (A_eq0 V c 1) (after0_1 V c) t d
/-- The staging buffer of input window 2 of call 0 holds its block when the body starts. -/
theorem before0_2 (c : Dev nD) (t : Fin cfg0.N) (d) : (dat0 V c).before 2 t d = iblk0 V c 2 t :=
  before0_2_of V (dat0 V c) (A_eq0 V c 2) (after0_2 V c) t d
/-- The staging buffer of input window 3 of call 0 holds its block when the body starts. -/
theorem before0_3 (c : Dev nD) (t : Fin cfg0.N) (d) : (dat0 V c).before 3 t d = iblk0 V c 3 t :=
  before0_3_of V (dat0 V c) (A_eq0 V c 3) (after0_3 V c) t d
/-- The staging buffer of input window 4 of call 0 holds its block when the body starts. -/
theorem before0_4 (c : Dev nD) (t : Fin cfg0.N) (d) : (dat0 V c).before 4 t d = iblk0 V c 4 t :=
  before0_4_of V (dat0 V c) (A_eq0 V c 4) (after0_4 V c) t d

/-- What the body of call 0 is given at grid point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- What the body of call 0 gives back at grid point `t`. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

/-- The body of call 0 at any grid point: from what it is given it ends with what it has to give back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold outsAt0
  unfold out0_A_5
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk0 V c 0 t) (iblk0 V c 1 t) (iblk0 V c 2 t) (iblk0 V c 3 t) (iblk0 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _)

/-- The body that the program runs at a point of call 0 is the printed one. -/
theorem defs₀_row0 (t : Fin cfg0.N) :
    defs₀ (F := F) .tc cfg0.body (cfg0.bodyArgs t (cfg0.slots t)) = bodyAt0 t := by
  unfold defs₀; rw [Defs.onTc_tc]

/-- The body of call 0 meets its obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.IdealCin.lean ====
/- The second call (the CIN and dense layers) of the idealized program: what its body does at a grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of the window `w` at grid point `t` of call 1: the part of the window's array that the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 of call 1 holds the window's block when the body starts at a point, whether or not it was fetched at that point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 1 of call 1 holds the window's block when the body starts at a point, whether or not it was fetched at that point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 2 of call 1 holds the window's block when the body starts at a point, whether or not it was fetched at that point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 3 of call 1 holds the window's block when the body starts at a point, whether or not it was fetched at that point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 4 of call 1 holds the window's block when the body starts at a point, whether or not it was fetched at that point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 5 of call 1 holds the window's block when the body starts at a point, whether or not it was fetched at that point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 6 of call 1 holds the window's block when the body starts at a point, whether or not it was fetched at that point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 7 of call 1 holds the window's block when the body starts at a point, whether or not it was fetched at that point. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 8 of call 1 holds the window's block when the body starts at a point, whether or not it was fetched at that point. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 9 of call 1 holds the window's block when the body starts at a point, whether or not it was fetched at that point. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 10 of call 1 holds the window's block when the body starts at a point, whether or not it was fetched at that point. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 11 of call 1 holds the window's block when the body starts at a point, whether or not it was fetched at that point. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 12 of call 1 holds the window's block when the body starts at a point, whether or not it was fetched at that point. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 13 of call 1 holds the window's block when the body starts at a point, whether or not it was fetched at that point. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 14 of call 1 holds the window's block when the body starts at a point, whether or not it was fetched at that point. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 15 of call 1 holds the window's block when the body starts at a point, whether or not it was fetched at that point. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 16 of call 1 holds the window's block when the body starts at a point, whether or not it was fetched at that point. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 17 of call 1 holds the window's block when the body starts at a point, whether or not it was fetched at that point. -/
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
/-- The staging buffer of input window 18 of call 1 holds the window's block when the body starts at a point, whether or not it was fetched at that point. -/
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)

/-- The buffer through which the stored contents of output window 19 of call 1 are read. -/
abbrev VO1_19 : View sig .tc .vmem S64x1 .f32 := (Memref.whole cc1_stg19_0 : Memref sig .tc .vmem S64x1 .f32).view
/-- The staging buffer of window 0 of call 1 that grid point `t` uses. -/
abbrev ms1_0 (t : Fin cfg1.N) : Memref sig .tc .vmem S64x391 .f32 := win1_0.stage (cfg1.slots t 0)
/-- That staging buffer is a whole buffer. -/
abbrev hs1_0 (t : Fin cfg1.N) : (ms1_0 t).IsWhole := hstage1_0 ((cfg1.slots t 0).cast nbuf1_0)
/-- The staging buffer of window 1 of call 1 that grid point `t` uses. -/
abbrev ms1_1 (t : Fin cfg1.N) : Memref sig .tc .vmem S1521x200 .f32 := win1_1.stage (cfg1.slots t 1)
/-- That staging buffer is a whole buffer. -/
abbrev hs1_1 (t : Fin cfg1.N) : (ms1_1 t).IsWhole := hstage1_1 ((cfg1.slots t 1).cast nbuf1_1)
/-- The staging buffer of window 2 of call 1 that grid point `t` uses. -/
abbrev ms1_2 (t : Fin cfg1.N) : Memref sig .tc .vmem S1x200 .f32 := win1_2.stage (cfg1.slots t 2)
/-- That staging buffer is a whole buffer. -/
abbrev hs1_2 (t : Fin cfg1.N) : (ms1_2 t).IsWhole := hstage1_2 ((cfg1.slots t 2).cast nbuf1_2)
/-- The staging buffer of window 3 of call 1 that grid point `t` uses. -/
abbrev ms1_3 (t : Fin cfg1.N) : Memref sig .tc .vmem S7800x200 .f32 := win1_3.stage (cfg1.slots t 3)
/-- That staging buffer is a whole buffer. -/
abbrev hs1_3 (t : Fin cfg1.N) : (ms1_3 t).IsWhole := hstage1_3 ((cfg1.slots t 3).cast nbuf1_3)
/-- The staging buffer of window 4 of call 1 that grid point `t` uses. -/
abbrev ms1_4 (t : Fin cfg1.N) : Memref sig .tc .vmem S1x200 .f32 := win1_4.stage (cfg1.slots t 4)
/-- That staging buffer is a whole buffer. -/
abbrev hs1_4 (t : Fin cfg1.N) : (ms1_4 t).IsWhole := hstage1_4 ((cfg1.slots t 4).cast nbuf1_4)
/-- The staging buffer of window 5 of call 1 that grid point `t` uses. -/
abbrev ms1_5 (t : Fin cfg1.N) : Memref sig .tc .vmem S7800x200 .f32 := win1_5.stage (cfg1.slots t 5)
/-- That staging buffer is a whole buffer. -/
abbrev hs1_5 (t : Fin cfg1.N) : (ms1_5 t).IsWhole := hstage1_5 ((cfg1.slots t 5).cast nbuf1_5)
/-- The staging buffer of window 6 of call 1 that grid point `t` uses. -/
abbrev ms1_6 (t : Fin cfg1.N) : Memref sig .tc .vmem S1x200 .f32 := win1_6.stage (cfg1.slots t 6)
/-- That staging buffer is a whole buffer. -/
abbrev hs1_6 (t : Fin cfg1.N) : (ms1_6 t).IsWhole := hstage1_6 ((cfg1.slots t 6).cast nbuf1_6)
/-- The staging buffer of window 7 of call 1 that grid point `t` uses. -/
abbrev ms1_7 (t : Fin cfg1.N) : Memref sig .tc .vmem S600x1 .f32 := win1_7.stage (cfg1.slots t 7)
/-- That staging buffer is a whole buffer. -/
abbrev hs1_7 (t : Fin cfg1.N) : (ms1_7 t).IsWhole := hstage1_7 ((cfg1.slots t 7).cast nbuf1_7)
/-- The staging buffer of window 8 of call 1 that grid point `t` uses. -/
abbrev ms1_8 (t : Fin cfg1.N) : Memref sig .tc .vmem S390x400 .f32 := win1_8.stage (cfg1.slots t 8)
/-- That staging buffer is a whole buffer. -/
abbrev hs1_8 (t : Fin cfg1.N) : (ms1_8 t).IsWhole := hstage1_8 ((cfg1.slots t 8).cast nbuf1_8)
/-- The staging buffer of window 9 of call 1 that grid point `t` uses. -/
abbrev ms1_9 (t : Fin cfg1.N) : Memref sig .tc .vmem S1x400 .f32 := win1_9.stage (cfg1.slots t 9)
/-- That staging buffer is a whole buffer. -/
abbrev hs1_9 (t : Fin cfg1.N) : (ms1_9 t).IsWhole := hstage1_9 ((cfg1.slots t 9).cast nbuf1_9)
/-- The staging buffer of window 10 of call 1 that grid point `t` uses. -/
abbrev ms1_10 (t : Fin cfg1.N) : Memref sig .tc .vmem S400x400 .f32 := win1_10.stage (cfg1.slots t 10)
/-- That staging buffer is a whole buffer. -/
abbrev hs1_10 (t : Fin cfg1.N) : (ms1_10 t).IsWhole := hstage1_10 ((cfg1.slots t 10).cast nbuf1_10)
/-- The staging buffer of window 11 of call 1 that grid point `t` uses. -/
abbrev ms1_11 (t : Fin cfg1.N) : Memref sig .tc .vmem S1x400 .f32 := win1_11.stage (cfg1.slots t 11)
/-- That staging buffer is a whole buffer. -/
abbrev hs1_11 (t : Fin cfg1.N) : (ms1_11 t).IsWhole := hstage1_11 ((cfg1.slots t 11).cast nbuf1_11)
/-- The staging buffer of window 12 of call 1 that grid point `t` uses. -/
abbrev ms1_12 (t : Fin cfg1.N) : Memref sig .tc .vmem S400x1 .f32 := win1_12.stage (cfg1.slots t 12)
/-- That staging buffer is a whole buffer. -/
abbrev hs1_12 (t : Fin cfg1.N) : (ms1_12 t).IsWhole := hstage1_12 ((cfg1.slots t 12).cast nbuf1_12)
/-- The staging buffer of window 13 of call 1 that grid point `t` uses. -/
abbrev ms1_13 (t : Fin cfg1.N) : Memref sig .tc .vmem S390x1280 .f32 := win1_13.stage (cfg1.slots t 13)
/-- That staging buffer is a whole buffer. -/
abbrev hs1_13 (t : Fin cfg1.N) : (ms1_13 t).IsWhole := hstage1_13 ((cfg1.slots t 13).cast nbuf1_13)
/-- The staging buffer of window 14 of call 1 that grid point `t` uses. -/
abbrev ms1_14 (t : Fin cfg1.N) : Memref sig .tc .vmem S256x1521 .bf16 := win1_14.stage (cfg1.slots t 14)
/-- That staging buffer is a whole buffer. -/
abbrev hs1_14 (t : Fin cfg1.N) : (ms1_14 t).IsWhole := hstage1_14 ((cfg1.slots t 14).cast nbuf1_14)
/-- The staging buffer of window 15 of call 1 that grid point `t` uses. -/
abbrev ms1_15 (t : Fin cfg1.N) : Memref sig .tc .vmem S256x1521 .bf16 := win1_15.stage (cfg1.slots t 15)
/-- That staging buffer is a whole buffer. -/
abbrev hs1_15 (t : Fin cfg1.N) : (ms1_15 t).IsWhole := hstage1_15 ((cfg1.slots t 15).cast nbuf1_15)
/-- The staging buffer of window 16 of call 1 that grid point `t` uses. -/
abbrev ms1_16 (t : Fin cfg1.N) : Memref sig .tc .vmem S256x7800 .bf16 := win1_16.stage (cfg1.slots t 16)
/-- That staging buffer is a whole buffer. -/
abbrev hs1_16 (t : Fin cfg1.N) : (ms1_16 t).IsWhole := hstage1_16 ((cfg1.slots t 16).cast nbuf1_16)
/-- The staging buffer of window 17 of call 1 that grid point `t` uses. -/
abbrev ms1_17 (t : Fin cfg1.N) : Memref sig .tc .vmem S400x3200 .bf16 := win1_17.stage (cfg1.slots t 17)
/-- That staging buffer is a whole buffer. -/
abbrev hs1_17 (t : Fin cfg1.N) : (ms1_17 t).IsWhole := hstage1_17 ((cfg1.slots t 17).cast nbuf1_17)
/-- The staging buffer of window 18 of call 1 that grid point `t` uses. -/
abbrev ms1_18 (t : Fin cfg1.N) : Memref sig .tc .smem S1x1 .f32 := win1_18.stage (cfg1.slots t 18)
/-- That staging buffer is a whole buffer. -/
abbrev hs1_18 (t : Fin cfg1.N) : (ms1_18 t).IsWhole := hstage1_18 ((cfg1.slots t 18).cast nbuf1_18)
/-- The staging buffer of window 19 of call 1 that grid point `t` uses. -/
abbrev ms1_19 (t : Fin cfg1.N) : Memref sig .tc .vmem S64x1 .f32 := win1_19.stage (cfg1.slots t 19)
/-- That staging buffer is a whole buffer. -/
abbrev hs1_19 (t : Fin cfg1.N) : (ms1_19 t).IsWhole := hstage1_19 ((cfg1.slots t 19).cast nbuf1_19)
/-- Scratch buffer 0 of call 1. -/
abbrev scM1_0 : Memref sig .tc .vmem S64x1280 .f32 := Memref.whole cc1_scratch0
/-- Scratch buffer 1 of call 1. -/
abbrev scM1_1 : Memref sig .tc .vmem S640x128 .f32 := Memref.whole cc1_scratch1

/-- What call 1 owns besides its windows: the other staging buffers, its scratch buffers and the random-number register, each at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

set_option maxHeartbeats 8000000 in
/-- The body of call 1, run once: the pieces that it stores into its output (and leaves in its scratch), with the proof that from the inputs' contents it ends holding the inputs as they were and the output with those pieces written. -/
noncomputable def kernelRun1_A (c : Dev nD) (i : grid1.Coords) (arg1 : Memref sig .tc .vmem S64x391 .f32) (harg1 : arg1.IsWhole) (arg2 : Memref sig .tc .vmem S1521x200 .f32) (harg2 : arg2.IsWhole) (arg3 : Memref sig .tc .vmem S1x200 .f32) (harg3 : arg3.IsWhole) (arg4 : Memref sig .tc .vmem S7800x200 .f32) (harg4 : arg4.IsWhole) (arg5 : Memref sig .tc .vmem S1x200 .f32) (harg5 : arg5.IsWhole) (arg6 : Memref sig .tc .vmem S7800x200 .f32) (harg6 : arg6.IsWhole) (arg7 : Memref sig .tc .vmem S1x200 .f32) (harg7 : arg7.IsWhole) (arg8 : Memref sig .tc .vmem S600x1 .f32) (harg8 : arg8.IsWhole) (arg9 : Memref sig .tc .vmem S390x400 .f32) (harg9 : arg9.IsWhole) (arg10 : Memref sig .tc .vmem S1x400 .f32) (harg10 : arg10.IsWhole) (arg11 : Memref sig .tc .vmem S400x400 .f32) (harg11 : arg11.IsWhole) (arg12 : Memref sig .tc .vmem S1x400 .f32) (harg12 : arg12.IsWhole) (arg13 : Memref sig .tc .vmem S400x1 .f32) (harg13 : arg13.IsWhole) (arg14 : Memref sig .tc .vmem S390x1280 .f32) (harg14 : arg14.IsWhole) (arg15 : Memref sig .tc .vmem S256x1521 .bf16) (harg15 : arg15.IsWhole) (arg16 : Memref sig .tc .vmem S256x1521 .bf16) (harg16 : arg16.IsWhole) (arg17 : Memref sig .tc .vmem S256x7800 .bf16) (harg17 : arg17.IsWhole) (arg18 : Memref sig .tc .vmem S400x3200 .bf16) (harg18 : arg18.IsWhole) (arg19 : Memref sig .tc .smem S1x1 .f32) (harg19 : arg19.IsWhole) (arg20 : Memref sig .tc .vmem S64x1 .f32) (harg20 : arg20.IsWhole) (arg21 : Memref sig .tc .vmem S64x1280 .f32) (harg21 : arg21.IsWhole) (arg22 : Memref sig .tc .vmem S640x128 .f32) (harg22 : arg22.IsWhole)
    (x0 : Vec F S64x391 .f32) (x1 : Vec F S1521x200 .f32) (x2 : Vec F S1x200 .f32) (x3 : Vec F S7800x200 .f32) (x4 : Vec F S1x200 .f32) (x5 : Vec F S7800x200 .f32) (x6 : Vec F S1x200 .f32) (x7 : Vec F S600x1 .f32) (x8 : Vec F S390x400 .f32) (x9 : Vec F S1x400 .f32) (x10 : Vec F S400x400 .f32) (x11 : Vec F S1x400 .f32) (x12 : Vec F S400x1 .f32) (x13 : Vec F S390x1280 .f32) (x14 : Vec F S256x1521 .bf16) (x15 : Vec F S256x1521 .bf16) (x16 : Vec F S256x7800 .bf16) (x17 : Vec F S400x3200 .bf16) (x18 : Vec F S1x1 .f32) :
    Σ' (L19 : List (View.Piece (Elt F) S64x1 .f32)), Σ' (LT0 : List (View.Piece (Elt F) S64x1280 .f32)), { LT1 : List (View.Piece (Elt F) S640x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f LT0) ∗ (∃ f, arg22.view.loc (c : Thread nD τ) ↦[arg22.view.set]{fullShare} arg22.view.writes (Elt F) f LT1)) -∗ K ⟨⟩))
          ⊢ wp frame (wpE (defs₀ (F := F)) Variants.none c none) E (cc1_xdeepfm_cin_dnn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, fun E K => ?run⟩
  case run =>
    simp only [cc1_xdeepfm_cin_dnn_eq_skeleton]; unfold cc1_xdeepfm_cin_dnn_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [HS0]; · iexists _; iexact HS0
    iexists _; iexact HS1

/-- The stored pieces of output window 19 of call 1 cover its whole block. -/
theorem cover1_A_19 (c : Dev nD) (i : grid1.Coords) (arg1 : Memref sig .tc .vmem S64x391 .f32) (harg1 : arg1.IsWhole) (arg2 : Memref sig .tc .vmem S1521x200 .f32) (harg2 : arg2.IsWhole) (arg3 : Memref sig .tc .vmem S1x200 .f32) (harg3 : arg3.IsWhole) (arg4 : Memref sig .tc .vmem S7800x200 .f32) (harg4 : arg4.IsWhole) (arg5 : Memref sig .tc .vmem S1x200 .f32) (harg5 : arg5.IsWhole) (arg6 : Memref sig .tc .vmem S7800x200 .f32) (harg6 : arg6.IsWhole) (arg7 : Memref sig .tc .vmem S1x200 .f32) (harg7 : arg7.IsWhole) (arg8 : Memref sig .tc .vmem S600x1 .f32) (harg8 : arg8.IsWhole) (arg9 : Memref sig .tc .vmem S390x400 .f32) (harg9 : arg9.IsWhole) (arg10 : Memref sig .tc .vmem S1x400 .f32) (harg10 : arg10.IsWhole) (arg11 : Memref sig .tc .vmem S400x400 .f32) (harg11 : arg11.IsWhole) (arg12 : Memref sig .tc .vmem S1x400 .f32) (harg12 : arg12.IsWhole) (arg13 : Memref sig .tc .vmem S400x1 .f32) (harg13 : arg13.IsWhole) (arg14 : Memref sig .tc .vmem S390x1280 .f32) (harg14 : arg14.IsWhole) (arg15 : Memref sig .tc .vmem S256x1521 .bf16) (harg15 : arg15.IsWhole) (arg16 : Memref sig .tc .vmem S256x1521 .bf16) (harg16 : arg16.IsWhole) (arg17 : Memref sig .tc .vmem S256x7800 .bf16) (harg17 : arg17.IsWhole) (arg18 : Memref sig .tc .vmem S400x3200 .bf16) (harg18 : arg18.IsWhole) (arg19 : Memref sig .tc .smem S1x1 .f32) (harg19 : arg19.IsWhole) (arg20 : Memref sig .tc .vmem S64x1 .f32) (harg20 : arg20.IsWhole) (arg21 : Memref sig .tc .vmem S64x1280 .f32) (harg21 : arg21.IsWhole) (arg22 : Memref sig .tc .vmem S640x128 .f32) (harg22 : arg22.IsWhole)
    (x0 : Vec F S64x391 .f32) (x1 : Vec F S1521x200 .f32) (x2 : Vec F S1x200 .f32) (x3 : Vec F S7800x200 .f32) (x4 : Vec F S1x200 .f32) (x5 : Vec F S7800x200 .f32) (x6 : Vec F S1x200 .f32) (x7 : Vec F S600x1 .f32) (x8 : Vec F S390x400 .f32) (x9 : Vec F S1x400 .f32) (x10 : Vec F S400x400 .f32) (x11 : Vec F S1x400 .f32) (x12 : Vec F S400x1 .f32) (x13 : Vec F S390x1280 .f32) (x14 : Vec F S256x1521 .bf16) (x15 : Vec F S256x1521 .bf16) (x16 : Vec F S256x7800 .bf16) (x17 : Vec F S400x3200 .bf16) (x18 : Vec F S1x1 .f32) (y : S64x1.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).1 S64x1.size (by sl_kernel_rfl) y

/-- What the body of call 1 leaves in the block of output window 19. -/
def out1_A_19 (c : Dev nD) (i : grid1.Coords) (arg1 : Memref sig .tc .vmem S64x391 .f32) (harg1 : arg1.IsWhole) (arg2 : Memref sig .tc .vmem S1521x200 .f32) (harg2 : arg2.IsWhole) (arg3 : Memref sig .tc .vmem S1x200 .f32) (harg3 : arg3.IsWhole) (arg4 : Memref sig .tc .vmem S7800x200 .f32) (harg4 : arg4.IsWhole) (arg5 : Memref sig .tc .vmem S1x200 .f32) (harg5 : arg5.IsWhole) (arg6 : Memref sig .tc .vmem S7800x200 .f32) (harg6 : arg6.IsWhole) (arg7 : Memref sig .tc .vmem S1x200 .f32) (harg7 : arg7.IsWhole) (arg8 : Memref sig .tc .vmem S600x1 .f32) (harg8 : arg8.IsWhole) (arg9 : Memref sig .tc .vmem S390x400 .f32) (harg9 : arg9.IsWhole) (arg10 : Memref sig .tc .vmem S1x400 .f32) (harg10 : arg10.IsWhole) (arg11 : Memref sig .tc .vmem S400x400 .f32) (harg11 : arg11.IsWhole) (arg12 : Memref sig .tc .vmem S1x400 .f32) (harg12 : arg12.IsWhole) (arg13 : Memref sig .tc .vmem S400x1 .f32) (harg13 : arg13.IsWhole) (arg14 : Memref sig .tc .vmem S390x1280 .f32) (harg14 : arg14.IsWhole) (arg15 : Memref sig .tc .vmem S256x1521 .bf16) (harg15 : arg15.IsWhole) (arg16 : Memref sig .tc .vmem S256x1521 .bf16) (harg16 : arg16.IsWhole) (arg17 : Memref sig .tc .vmem S256x7800 .bf16) (harg17 : arg17.IsWhole) (arg18 : Memref sig .tc .vmem S400x3200 .bf16) (harg18 : arg18.IsWhole) (arg19 : Memref sig .tc .smem S1x1 .f32) (harg19 : arg19.IsWhole) (arg20 : Memref sig .tc .vmem S64x1 .f32) (harg20 : arg20.IsWhole) (arg21 : Memref sig .tc .vmem S64x1280 .f32) (harg21 : arg21.IsWhole) (arg22 : Memref sig .tc .vmem S640x128 .f32) (harg22 : arg22.IsWhole)
    (x0 : Vec F S64x391 .f32) (x1 : Vec F S1521x200 .f32) (x2 : Vec F S1x200 .f32) (x3 : Vec F S7800x200 .f32) (x4 : Vec F S1x200 .f32) (x5 : Vec F S7800x200 .f32) (x6 : Vec F S1x200 .f32) (x7 : Vec F S600x1 .f32) (x8 : Vec F S390x400 .f32) (x9 : Vec F S1x400 .f32) (x10 : Vec F S400x400 .f32) (x11 : Vec F S1x400 .f32) (x12 : Vec F S400x1 .f32) (x13 : Vec F S390x1280 .f32) (x14 : Vec F S256x1521 .bf16) (x15 : Vec F S256x1521 .bf16) (x16 : Vec F S256x7800 .bf16) (x17 : Vec F S400x3200 .bf16) (x18 : Vec F S1x1 .f32) : Vec F S64x1 .f32 :=
  VO1_19.read (Elt F) (VO1_19.writes (Elt F) VO1_19.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).1)

/-- What the body of call 1 leaves in its output block at grid point `t`. -/
def outsAt1 (c : Dev nD) (t : Fin cfg1.N) : Vec F S64x1 .f32 :=
  out1_A_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t)

/-- The data of the proof for call 1: the arrays as the call finds them, and what every staging buffer holds after the body at each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => (outsAt1 V c t)
    | ⟨_ + 20, h⟩ => absurd h (Nat.not_lt.2 (Nat.le_add_left _ _))
  Φ _ := Pipeline.ΦA spec1 c
  q _ := fullShare
  owed _ := 0

/-- The arrays of call 1 are as the call finds them. -/
theorem A_eq1 (c : Dev nD) (w : Fin cfg1.W) : (dat1 V c).A w = V c (Pipeline.arrRef spec1 w) := by
  dsimp only [dat1]

/-- What the staging buffer of window 0 of call 1 holds after the body. -/
theorem after1_0 (c : Dev nD) (t : Fin cfg1.N) : (dat1 V c).after 0 t = iblk1 V c 0 t := by dsimp only [dat1]
/-- What the staging buffer of window 1 of call 1 holds after the body. -/
theorem after1_1 (c : Dev nD) (t : Fin cfg1.N) : (dat1 V c).after 1 t = iblk1 V c 1 t := by dsimp only [dat1]
/-- What the staging buffer of window 2 of call 1 holds after the body. -/
theorem after1_2 (c : Dev nD) (t : Fin cfg1.N) : (dat1 V c).after 2 t = iblk1 V c 2 t := by dsimp only [dat1]
/-- What the staging buffer of window 3 of call 1 holds after the body. -/
theorem after1_3 (c : Dev nD) (t : Fin cfg1.N) : (dat1 V c).after 3 t = iblk1 V c 3 t := by dsimp only [dat1]
/-- What the staging buffer of window 4 of call 1 holds after the body. -/
theorem after1_4 (c : Dev nD) (t : Fin cfg1.N) : (dat1 V c).after 4 t = iblk1 V c 4 t := by dsimp only [dat1]
/-- What the staging buffer of window 5 of call 1 holds after the body. -/
theorem after1_5 (c : Dev nD) (t : Fin cfg1.N) : (dat1 V c).after 5 t = iblk1 V c 5 t := by dsimp only [dat1]
/-- What the staging buffer of window 6 of call 1 holds after the body. -/
theorem after1_6 (c : Dev nD) (t : Fin cfg1.N) : (dat1 V c).after 6 t = iblk1 V c 6 t := by dsimp only [dat1]
/-- What the staging buffer of window 7 of call 1 holds after the body. -/
theorem after1_7 (c : Dev nD) (t : Fin cfg1.N) : (dat1 V c).after 7 t = iblk1 V c 7 t := by dsimp only [dat1]
/-- What the staging buffer of window 8 of call 1 holds after the body. -/
theorem after1_8 (c : Dev nD) (t : Fin cfg1.N) : (dat1 V c).after 8 t = iblk1 V c 8 t := by dsimp only [dat1]
/-- What the staging buffer of window 9 of call 1 holds after the body. -/
theorem after1_9 (c : Dev nD) (t : Fin cfg1.N) : (dat1 V c).after 9 t = iblk1 V c 9 t := by dsimp only [dat1]
/-- What the staging buffer of window 10 of call 1 holds after the body. -/
theorem after1_10 (c : Dev nD) (t : Fin cfg1.N) : (dat1 V c).after 10 t = iblk1 V c 10 t := by dsimp only [dat1]
/-- What the staging buffer of window 11 of call 1 holds after the body. -/
theorem after1_11 (c : Dev nD) (t : Fin cfg1.N) : (dat1 V c).after 11 t = iblk1 V c 11 t := by dsimp only [dat1]
/-- What the staging buffer of window 12 of call 1 holds after the body. -/
theorem after1_12 (c : Dev nD) (t : Fin cfg1.N) : (dat1 V c).after 12 t = iblk1 V c 12 t := by dsimp only [dat1]
/-- What the staging buffer of window 13 of call 1 holds after the body. -/
theorem after1_13 (c : Dev nD) (t : Fin cfg1.N) : (dat1 V c).after 13 t = iblk1 V c 13 t := by dsimp only [dat1]
/-- What the staging buffer of window 14 of call 1 holds after the body. -/
theorem after1_14 (c : Dev nD) (t : Fin cfg1.N) : (dat1 V c).after 14 t = iblk1 V c 14 t := by dsimp only [dat1]
/-- What the staging buffer of window 15 of call 1 holds after the body. -/
theorem after1_15 (c : Dev nD) (t : Fin cfg1.N) : (dat1 V c).after 15 t = iblk1 V c 15 t := by dsimp only [dat1]
/-- What the staging buffer of window 16 of call 1 holds after the body. -/
theorem after1_16 (c : Dev nD) (t : Fin cfg1.N) : (dat1 V c).after 16 t = iblk1 V c 16 t := by dsimp only [dat1]
/-- What the staging buffer of window 17 of call 1 holds after the body. -/
theorem after1_17 (c : Dev nD) (t : Fin cfg1.N) : (dat1 V c).after 17 t = iblk1 V c 17 t := by dsimp only [dat1]
/-- What the staging buffer of window 18 of call 1 holds after the body. -/
theorem after1_18 (c : Dev nD) (t : Fin cfg1.N) : (dat1 V c).after 18 t = iblk1 V c 18 t := by dsimp only [dat1]
/-- What the staging buffer of window 19 of call 1 holds after the body. -/
theorem after1_19 (c : Dev nD) (t : Fin cfg1.N) : (dat1 V c).after 19 t = (outsAt1 V c t) := by dsimp only [dat1]

/-- The staging buffer of input window 0 of call 1 holds its block when the body starts. -/
theorem before1_0 (c : Dev nD) (t : Fin cfg1.N) (d) : (dat1 V c).before 0 t d = iblk1 V c 0 t :=
  before1_0_of V (dat1 V c) (A_eq1 V c 0) (after1_0 V c) t d
/-- The staging buffer of input window 1 of call 1 holds its block when the body starts. -/
theorem before1_1 (c : Dev nD) (t : Fin cfg1.N) (d) : (dat1 V c).before 1 t d = iblk1 V c 1 t :=
  before1_1_of V (dat1 V c) (A_eq1 V c 1) (after1_1 V c) t d
/-- The staging buffer of input window 2 of call 1 holds its block when the body starts. -/
theorem before1_2 (c : Dev nD) (t : Fin cfg1.N) (d) : (dat1 V c).before 2 t d = iblk1 V c 2 t :=
  before1_2_of V (dat1 V c) (A_eq1 V c 2) (after1_2 V c) t d
/-- The staging buffer of input window 3 of call 1 holds its block when the body starts. -/
theorem before1_3 (c : Dev nD) (t : Fin cfg1.N) (d) : (dat1 V c).before 3 t d = iblk1 V c 3 t :=
  before1_3_of V (dat1 V c) (A_eq1 V c 3) (after1_3 V c) t d
/-- The staging buffer of input window 4 of call 1 holds its block when the body starts. -/
theorem before1_4 (c : Dev nD) (t : Fin cfg1.N) (d) : (dat1 V c).before 4 t d = iblk1 V c 4 t :=
  before1_4_of V (dat1 V c) (A_eq1 V c 4) (after1_4 V c) t d
/-- The staging buffer of input window 5 of call 1 holds its block when the body starts. -/
theorem before1_5 (c : Dev nD) (t : Fin cfg1.N) (d) : (dat1 V c).before 5 t d = iblk1 V c 5 t :=
  before1_5_of V (dat1 V c) (A_eq1 V c 5) (after1_5 V c) t d
/-- The staging buffer of input window 6 of call 1 holds its block when the body starts. -/
theorem before1_6 (c : Dev nD) (t : Fin cfg1.N) (d) : (dat1 V c).before 6 t d = iblk1 V c 6 t :=
  before1_6_of V (dat1 V c) (A_eq1 V c 6) (after1_6 V c) t d
/-- The staging buffer of input window 7 of call 1 holds its block when the body starts. -/
theorem before1_7 (c : Dev nD) (t : Fin cfg1.N) (d) : (dat1 V c).before 7 t d = iblk1 V c 7 t :=
  before1_7_of V (dat1 V c) (A_eq1 V c 7) (after1_7 V c) t d
/-- The staging buffer of input window 8 of call 1 holds its block when the body starts. -/
theorem before1_8 (c : Dev nD) (t : Fin cfg1.N) (d) : (dat1 V c).before 8 t d = iblk1 V c 8 t :=
  before1_8_of V (dat1 V c) (A_eq1 V c 8) (after1_8 V c) t d
/-- The staging buffer of input window 9 of call 1 holds its block when the body starts. -/
theorem before1_9 (c : Dev nD) (t : Fin cfg1.N) (d) : (dat1 V c).before 9 t d = iblk1 V c 9 t :=
  before1_9_of V (dat1 V c) (A_eq1 V c 9) (after1_9 V c) t d
/-- The staging buffer of input window 10 of call 1 holds its block when the body starts. -/
theorem before1_10 (c : Dev nD) (t : Fin cfg1.N) (d) : (dat1 V c).before 10 t d = iblk1 V c 10 t :=
  before1_10_of V (dat1 V c) (A_eq1 V c 10) (after1_10 V c) t d
/-- The staging buffer of input window 11 of call 1 holds its block when the body starts. -/
theorem before1_11 (c : Dev nD) (t : Fin cfg1.N) (d) : (dat1 V c).before 11 t d = iblk1 V c 11 t :=
  before1_11_of V (dat1 V c) (A_eq1 V c 11) (after1_11 V c) t d
/-- The staging buffer of input window 12 of call 1 holds its block when the body starts. -/
theorem before1_12 (c : Dev nD) (t : Fin cfg1.N) (d) : (dat1 V c).before 12 t d = iblk1 V c 12 t :=
  before1_12_of V (dat1 V c) (A_eq1 V c 12) (after1_12 V c) t d
/-- The staging buffer of input window 13 of call 1 holds its block when the body starts. -/
theorem before1_13 (c : Dev nD) (t : Fin cfg1.N) (d) : (dat1 V c).before 13 t d = iblk1 V c 13 t :=
  before1_13_of V (dat1 V c) (A_eq1 V c 13) (after1_13 V c) t d
/-- The staging buffer of input window 14 of call 1 holds its block when the body starts. -/
theorem before1_14 (c : Dev nD) (t : Fin cfg1.N) (d) : (dat1 V c).before 14 t d = iblk1 V c 14 t :=
  before1_14_of V (dat1 V c) (A_eq1 V c 14) (after1_14 V c) t d
/-- The staging buffer of input window 15 of call 1 holds its block when the body starts. -/
theorem before1_15 (c : Dev nD) (t : Fin cfg1.N) (d) : (dat1 V c).before 15 t d = iblk1 V c 15 t :=
  before1_15_of V (dat1 V c) (A_eq1 V c 15) (after1_15 V c) t d
/-- The staging buffer of input window 16 of call 1 holds its block when the body starts. -/
theorem before1_16 (c : Dev nD) (t : Fin cfg1.N) (d) : (dat1 V c).before 16 t d = iblk1 V c 16 t :=
  before1_16_of V (dat1 V c) (A_eq1 V c 16) (after1_16 V c) t d
/-- The staging buffer of input window 17 of call 1 holds its block when the body starts. -/
theorem before1_17 (c : Dev nD) (t : Fin cfg1.N) (d) : (dat1 V c).before 17 t d = iblk1 V c 17 t :=
  before1_17_of V (dat1 V c) (A_eq1 V c 17) (after1_17 V c) t d
/-- The staging buffer of input window 18 of call 1 holds its block when the body starts. -/
theorem before1_18 (c : Dev nD) (t : Fin cfg1.N) (d) : (dat1 V c).before 18 t d = iblk1 V c 18 t :=
  before1_18_of V (dat1 V c) (A_eq1 V c 18) (after1_18 V c) t d

/-- What the body of call 1 is given at grid point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d)))

/-- What the body of call 1 gives back at grid point `t`. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t))

set_option maxHeartbeats 2000000 in
/-- The body of call 1 at any grid point: from what it is given it ends with what it has to give back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19]
  rw [show (dat1 V c).Φ t.castSucc = Pipeline.ΦA spec1 c from rfl, PhiA1_eq]
  unfold outsAt1
  unfold out1_A_19
  iintro ⟨⟨⟨HR0, HR1, HR2, HR3, HR4, HR5, HR6, HR7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun1_A c (grid1.coords t) _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [HS0]; · iexact HS0
  isplitl [HS1]; · iexact HS1
  iintro ⟨H0, H1, H2, H3, H4, H5, H6, H7, H8, H9, H10, H11, H12, H13, H14, H15, H16, H17, H18, ⟨%e19, H19⟩, ⟨%fT0, HS0⟩, ⟨%fT1, HS1⟩⟩
  isplitl [HR0 HR1 HR2 HR3 HR4 HR5 HR6 HR7 HS0 HS1 Hg]
  · isplitl [HR0 HR1 HR2 HR3 HR4 HR5 HR6 HR7 HS0 HS1]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  unfold owns; iexists _; isplitr
  swap; · iexact H19
  ipureintro; exact View.read_writes_of_cover _ _ _ _ _ (cover1_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that the program runs at a point of call 1 is the printed one. -/
theorem defs₀_row1 (t : Fin cfg1.N) :
    defs₀ (F := F) .tc cfg1.body (cfg1.bodyArgs t (cfg1.slots t)) = bodyAt1 t := by
  unfold defs₀; rw [Defs.onTc_tc]

/-- The body of call 1 meets its obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.IdealLaunch.lean ====
/- The launch of the idealized program: the host operations, the two calls, and what every buffer holds at the end. -/
module

public import proofs.«01_k».proof.Proof.IdealEmbed
public import proofs.«01_k».proof.Proof.IdealCin

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of the twenty arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- No host operation before the first call allocates. -/
theorem hostOps0_fresh : (hostOps0 : List (HloOp τ sig (Elt F))).Forall fun op => op.fresh = ∅ := by
  simp only [List.Forall]; repeat' constructor
/-- The buffers that the host operations before the first call write. -/
abbrev hostOps0_W : List (Ref sig .tc) := [main_call0_cst, main_call0_v0, main_call0_v1, main_call0_v2, main_call0_v3, main_call0_v4, main_call0_v5, main_call0_v6, main_call0_cst_0, main_call0_cst_1, main_call0_call0_v0, main_call0_call0_v1, main_call0_v7, main_call0_v8, main_call0_v9, main_call0_v10, main_call0_v11, main_call0_cst_2, main_call0_cst_3, main_call0_call1_v0, main_call0_call1_v1, main_call0_v12, main_call0_v13, main_call0_v14, main_call0_v15, main_call0_v16, main_call0_v17, main_call0_cst_4, main_call0_cst_5, main_call0_call2_v0, main_call0_call2_v1, main_call0_v18, main_call0_v19, main_call0_v20, main_call0_v21, main_call0_v22, main_call0_v23, main_call0_cst_6, main_call0_cst_7, main_call0_call3_v0, main_call0_call3_v1, main_call0_v24, main_call0_v25, main_call0_v26, main_call0_v27, main_call0_v28, main_call0_v29, main_call0_cst_8, main_call0_cst_9, main_call0_call4_v0, main_call0_call4_v1, main_call0_v30, main_call0_v31, main_call0_v32, main_call0_v33, main_call0_v34, main_call0_v35, main_call0_v36, main_call0_v37, main_call0_v38, main_call0_v39, main_call0_v40, main_call0_v41, main_call0_v42, main_call0_v43, main_call0_v44, main_call0_v45, main_call0_v46]
/-- The host operations write only these buffers. -/
theorem hostOps0_writes : (hostOps0 : List (HloOp τ sig (Elt F))).Forall fun op => op.writes ⊆ (hostOps0_W.map (Proc.devRef (τ := τ) .tc)).toFinset :=
  StableHlo.forall_writes_sub_of_map rfl
/-- No argument is among the buffers that the host operations write. -/
theorem hostOps0_args : ∀ a ∈ argRefs, a ∉ hostOps0_W := ListAll.forall_mem_of_all_decide (by decide +kernel)

/-- The contents of every buffer at boundary 0 of the program. -/
abbrev W0 : Dev nD → Valuation τ sig (Elt F) := fun c b => (s₀ m ρ).mem ((c : Dev nD), b)
/-- The arguments are unchanged at boundary 0 of the program. -/
theorem W0_args (c : Dev nD) : ∀ a ∈ argRefs, W0 m ρ c (Proc.devRef .tc a) = m ((c : Thread nD τ).loc a) := fun _ _ => rfl
/-- The contents of every buffer at boundary 1 of the program. -/
abbrev W1 : Dev nD → Valuation τ sig (Elt F) := fun c => StableHlo.after hostOps0 (W0 m ρ c)
/-- A buffer that is not written is unchanged up to boundary 1. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are unchanged at boundary 1 of the program. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same contents, buffer by buffer of one core. -/
abbrev V1 : (c : Dev nD) → (b : Ref sig .tc) → Buf (Elt F) ((c : Thread nD τ).loc b) := fun c b => W1 m ρ c b
/-- The contents of every buffer at boundary 2 of the program. -/
def W2 (c : Dev nD) : Valuation τ sig (Elt F) :=
  Pipeline.withArrays spec0 c (W1 m ρ c) fun w => (dat0 (V1 m ρ) c).arrAt w cfg0.N
/-- The array of a window after the call before boundary 2. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is no window's array is unchanged by the call before boundary 2. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is not written is unchanged up to boundary 2. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- No argument is an output of call 0. -/
theorem argsIn0 : ∀ a ∈ argRefs, ∀ w : Fin cfg0.W, Pipeline.arrRef spec0 w = a → (cfg0.win w).isOut = false :=
  ListAll.forall_mem_of_all_decide (by decide +kernel)
/-- The arguments are unchanged at boundary 2 of the program. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same contents, buffer by buffer of one core. -/
abbrev V2 : (c : Dev nD) → (b : Ref sig .tc) → Buf (Elt F) ((c : Thread nD τ).loc b) := fun c b => W2 m ρ c b
/-- What call 0 leaves in the array of each of its windows. -/
theorem hF0 (c : Dev nD) (w : Fin cfg0.W) : (dat0 (V1 m ρ) c).arrAt w cfg0.N = V2 m ρ c (Pipeline.arrRef spec0 w) :=
  (W2_arr m ρ c w).symm
/-- What call 0 does not touch stays. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The contents of every buffer at boundary 3 of the program. -/
def W3 (c : Dev nD) : Valuation τ sig (Elt F) :=
  Pipeline.withArrays spec1 c (W2 m ρ c) fun w => (dat1 (V2 m ρ) c).arrAt w cfg1.N
/-- The array of a window after the call before boundary 3. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- A buffer that is no window's array is unchanged by the call before boundary 3. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that is not written is unchanged up to boundary 3. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- No argument is an output of call 1. -/
theorem argsIn1 : ∀ a ∈ argRefs, ∀ w : Fin cfg1.W, Pipeline.arrRef spec1 w = a → (cfg1.win w).isOut = false :=
  ListAll.forall_mem_of_all_decide (by decide +kernel)
/-- The arguments are unchanged at boundary 3 of the program. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same contents, buffer by buffer of one core. -/
abbrev V3 : (c : Dev nD) → (b : Ref sig .tc) → Buf (Elt F) ((c : Thread nD τ).loc b) := fun c b => W3 m ρ c b
/-- What call 1 leaves in the array of each of its windows. -/
theorem hF1 (c : Dev nD) (w : Fin cfg1.W) : (dat1 (V2 m ρ) c).arrAt w cfg1.N = V3 m ρ c (Pipeline.arrRef spec1 w) :=
  (W3_arr m ρ c w).symm
/-- What call 1 does not touch stays. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- Argument `arg0` is unchanged at the end. -/
theorem W3_main_arg0 (c : Dev nD) : W3 m ρ c (Proc.devRef .tc main_arg0) = m ((c : Thread nD τ).loc main_arg0) :=
  W3_args m ρ c main_arg0 (by decide)
/-- Argument `arg1` is unchanged at the end. -/
theorem W3_main_arg1 (c : Dev nD) : W3 m ρ c (Proc.devRef .tc main_arg1) = m ((c : Thread nD τ).loc main_arg1) :=
  W3_args m ρ c main_arg1 (by decide)
/-- Argument `arg2` is unchanged at the end. -/
theorem W3_main_arg2 (c : Dev nD) : W3 m ρ c (Proc.devRef .tc main_arg2) = m ((c : Thread nD τ).loc main_arg2) :=
  W3_args m ρ c main_arg2 (by decide)
/-- Argument `arg3` is unchanged at the end. -/
theorem W3_main_arg3 (c : Dev nD) : W3 m ρ c (Proc.devRef .tc main_arg3) = m ((c : Thread nD τ).loc main_arg3) :=
  W3_args m ρ c main_arg3 (by decide)
/-- Argument `arg4` is unchanged at the end. -/
theorem W3_main_arg4 (c : Dev nD) : W3 m ρ c (Proc.devRef .tc main_arg4) = m ((c : Thread nD τ).loc main_arg4) :=
  W3_args m ρ c main_arg4 (by decide)
/-- Argument `arg5` is unchanged at the end. -/
theorem W3_main_arg5 (c : Dev nD) : W3 m ρ c (Proc.devRef .tc main_arg5) = m ((c : Thread nD τ).loc main_arg5) :=
  W3_args m ρ c main_arg5 (by decide)
/-- Argument `arg6` is unchanged at the end. -/
theorem W3_main_arg6 (c : Dev nD) : W3 m ρ c (Proc.devRef .tc main_arg6) = m ((c : Thread nD τ).loc main_arg6) :=
  W3_args m ρ c main_arg6 (by decide)
/-- Argument `arg7` is unchanged at the end. -/
theorem W3_main_arg7 (c : Dev nD) : W3 m ρ c (Proc.devRef .tc main_arg7) = m ((c : Thread nD τ).loc main_arg7) :=
  W3_args m ρ c main_arg7 (by decide)
/-- Argument `arg8` is unchanged at the end. -/
theorem W3_main_arg8 (c : Dev nD) : W3 m ρ c (Proc.devRef .tc main_arg8) = m ((c : Thread nD τ).loc main_arg8) :=
  W3_args m ρ c main_arg8 (by decide)
/-- Argument `arg9` is unchanged at the end. -/
theorem W3_main_arg9 (c : Dev nD) : W3 m ρ c (Proc.devRef .tc main_arg9) = m ((c : Thread nD τ).loc main_arg9) :=
  W3_args m ρ c main_arg9 (by decide)
/-- Argument `arg10` is unchanged at the end. -/
theorem W3_main_arg10 (c : Dev nD) : W3 m ρ c (Proc.devRef .tc main_arg10) = m ((c : Thread nD τ).loc main_arg10) :=
  W3_args m ρ c main_arg10 (by decide)
/-- Argument `arg11` is unchanged at the end. -/
theorem W3_main_arg11 (c : Dev nD) : W3 m ρ c (Proc.devRef .tc main_arg11) = m ((c : Thread nD τ).loc main_arg11) :=
  W3_args m ρ c main_arg11 (by decide)
/-- Argument `arg12` is unchanged at the end. -/
theorem W3_main_arg12 (c : Dev nD) : W3 m ρ c (Proc.devRef .tc main_arg12) = m ((c : Thread nD τ).loc main_arg12) :=
  W3_args m ρ c main_arg12 (by decide)
/-- Argument `arg13` is unchanged at the end. -/
theorem W3_main_arg13 (c : Dev nD) : W3 m ρ c (Proc.devRef .tc main_arg13) = m ((c : Thread nD τ).loc main_arg13) :=
  W3_args m ρ c main_arg13 (by decide)
/-- Argument `arg14` is unchanged at the end. -/
theorem W3_main_arg14 (c : Dev nD) : W3 m ρ c (Proc.devRef .tc main_arg14) = m ((c : Thread nD τ).loc main_arg14) :=
  W3_args m ρ c main_arg14 (by decide)
/-- Argument `arg15` is unchanged at the end. -/
theorem W3_main_arg15 (c : Dev nD) : W3 m ρ c (Proc.devRef .tc main_arg15) = m ((c : Thread nD τ).loc main_arg15) :=
  W3_args m ρ c main_arg15 (by decide)
/-- Argument `arg16` is unchanged at the end. -/
theorem W3_main_arg16 (c : Dev nD) : W3 m ρ c (Proc.devRef .tc main_arg16) = m ((c : Thread nD τ).loc main_arg16) :=
  W3_args m ρ c main_arg16 (by decide)
/-- Argument `arg17` is unchanged at the end. -/
theorem W3_main_arg17 (c : Dev nD) : W3 m ρ c (Proc.devRef .tc main_arg17) = m ((c : Thread nD τ).loc main_arg17) :=
  W3_args m ρ c main_arg17 (by decide)
/-- Argument `arg18` is unchanged at the end. -/
theorem W3_main_arg18 (c : Dev nD) : W3 m ρ c (Proc.devRef .tc main_arg18) = m ((c : Thread nD τ).loc main_arg18) :=
  W3_args m ρ c main_arg18 (by decide)
/-- Argument `arg19` is unchanged at the end. -/
theorem W3_main_arg19 (c : Dev nD) : W3 m ρ c (Proc.devRef .tc main_arg19) = m ((c : Thread nD τ).loc main_arg19) :=
  W3_args m ρ c main_arg19 (by decide)

/-- The two calls are admissible. -/
abbrev adm : (p : Fin 2) → (pcfgs (F := F) p).Adm := fun p => (cfgs p).toPCfg_adm
/-- The data of the proof for the two calls. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No loop of the program needs a measure. -/
abbrev 𝒱₀ : Variants := Variants.none
/-- No counter is owed to at the launch. -/
abbrev L : GSem nD τ sig → Finset Unit := fun _ => ∅
/-- The level of every counter is zero. -/
abbrev lv : GSem nD τ sig → Unit → ℕ := fun _ _ => 0
/-- What a core keeps across the calls besides the buffers. -/
abbrev R (c : Dev nD) : sProp 𝕄 := iprop((∃ r, prngReg c r) ∗ ∃ W, owes (c : Thread nD τ) (0 : CellTallies nD τ sig Unit) W)
/-- A stretch of host operations as a segment of the program. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer that no call allocates is among the program's own buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- Call 0 as a segment of the program. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The segments of the program in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of its segments. -/
theorem main_run (c : Dev nD) : main (F := F) c = Pipeline.Seg.run (segs m ρ) := (main_chain c).trans (by chain_rfl)

/-- Every counter belongs to a call. -/
theorem no_unscoped : ∀ sm : SemLoc sig, sm.isScoped .tc = true := by decide

set_option backward.isDefEq.respectTransparency.types false in
/-- Every run of the program ends, with the arguments as they were, the result array as the second call leaves it, and every counter at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) ∧ r.2.mem ((c.tc : Thread nD τ).loc main_v0) = W3 m ρ c (Proc.devRef .tc main_v0))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨⟨(h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c),
       (h c _ (mem_uc main_arg15 (by decide))).trans (W3_main_arg15 m ρ c),
       (h c _ (mem_uc main_arg16 (by decide))).trans (W3_main_arg16 m ρ c),
       (h c _ (mem_uc main_arg17 (by decide))).trans (W3_main_arg17 m ρ c),
       (h c _ (mem_uc main_arg18 (by decide))).trans (W3_main_arg18 m ρ c),
       (h c _ (mem_uc main_arg19 (by decide))).trans (W3_main_arg19 m ρ c)⟩, h c _ (mem_uc main_v0 (by decide))⟩), funext fun g => hz g (.inr (no_unscoped g.2))⟩)

/-- Every run of the program ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun _ h => ⟨fun c => (h.1 c).1, h.2⟩) (run m ρ)

end Cert.KernelIdeal.Gen

end
-- ==== Proof.Num.lean ====
/- Arithmetic over the extended reals that the value of the kernel needs: finite values, a one-hot product that picks one
   entry, a sum taken in three chunks, and one CIN layer as a function of an embedding row and the previous layer's row. -/
module

public import Idealize.ShloMosaic.Lib.Pointwise

@[expose] public section

noncomputable section

namespace Cert.Xdeepfm

open Idealize.ShloMosaic

/-- An extended real that is a real number. -/
def IsFin (x : EReal) : Prop := ∃ r : ℝ, x = (r : EReal)

/-- A value strictly below infinity in absolute value is finite. -/
theorem IsFin.of_abs {x : EReal} (h : max x (-x) < ⊤) : IsFin x := by
  induction x using EReal.rec with
  | bot => simp at h
  | coe r => exact ⟨r, rfl⟩
  | top => simp at h

/-- Zero is finite. -/
theorem IsFin.zero : IsFin 0 := ⟨0, by simp⟩

/-- Finite values are closed under addition. -/
theorem IsFin.add {x y : EReal} (hx : IsFin x) (hy : IsFin y) : IsFin (x + y) := by
  obtain ⟨a, rfl⟩ := hx; obtain ⟨b, rfl⟩ := hy
  exact ⟨a + b, (EReal.coe_add a b).symm⟩

/-- Finite values are closed under multiplication. -/
theorem IsFin.mul {x y : EReal} (hx : IsFin x) (hy : IsFin y) : IsFin (x * y) := by
  obtain ⟨a, rfl⟩ := hx; obtain ⟨b, rfl⟩ := hy
  exact ⟨a * b, (EReal.coe_mul a b).symm⟩

/-- A finite sum of finite values is finite. -/
theorem IsFin.sum {ι : Type*} (s : Finset ι) (f : ι → EReal) (h : ∀ i, IsFin (f i)) : IsFin (∑ i ∈ s, f i) := by
  classical
  induction s using Finset.induction_on with
  | empty => exact ⟨0, by simp⟩
  | insert a s ha ih => rw [Finset.sum_insert ha]; exact (h a).add ih

/-- What is left of a finite value after taking the value itself away is zero (false at an infinity). -/
theorem IsFin.sub_self {x : EReal} (hx : IsFin x) : x - x = 0 := by
  obtain ⟨a, rfl⟩ := hx
  rw [← EReal.coe_sub, _root_.sub_self, EReal.coe_zero]

/-- A product with a row that is one at `j` and zero elsewhere picks the entry at `j`. -/
theorem sum_hit {n : ℕ} (u p : Fin n → EReal) (j : Fin n) (hp : ∀ a, p a = if a = j then 1 else 0) :
    ∑ a, u a * p a = u j := by
  rw [Finset.sum_eq_single j]
  · rw [hp, if_pos rfl, mul_one]
  · intro b _ hb
    rw [hp, if_neg hb, mul_zero]
  · intro h; exact absurd (Finset.mem_univ _) h

/-- A product with a row of zeros is zero. -/
theorem sum_miss {n : ℕ} (u p : Fin n → EReal) (hp : ∀ a, p a = 0) : ∑ a, u a * p a = 0 :=
  Finset.sum_eq_zero fun a _ => by rw [hp, mul_zero]

/-- The low parts of finite values are zeros, and so is any product with them. -/
theorem sum_low {n : ℕ} (u q : Fin n → EReal) (hu : ∀ a, IsFin (u a)) : ∑ a, (u a - u a) * q a = 0 :=
  Finset.sum_eq_zero fun a _ => by rw [(hu a).sub_self, zero_mul]

/-- Picking from the high and the low part of finite values, stacked, gives back the value. -/
theorem pick {n : ℕ} (u p q : Fin n → EReal) (hu : ∀ a, IsFin (u a)) (j : Fin n)
    (hp : ∀ a, p a = if a = j then 1 else 0) : (∑ a, u a * p a) + ∑ a, (u a - u a) * q a = u j := by
  rw [sum_hit u p j hp, sum_low u q hu, add_zero]

/-- A sum of 7800 terms, taken as chunks of 3200, 3200 and 1400. -/
theorem sum_chunks (f : Fin 7800 → EReal) :
    ∑ k : Fin 7800, f k = ((∑ k : Fin 3200, f ⟨k.val, by omega⟩) + ∑ k : Fin 3200, f ⟨3200 + k.val, by omega⟩)
      + ∑ k : Fin 1400, f ⟨6400 + k.val, by omega⟩ := by
  rw [show (∑ k : Fin 7800, f k) = ∑ k : Fin (6400 + 1400), f k from rfl, Fin.sum_univ_add]
  refine congrArg₂ (· + ·) ?_ rfl
  rw [show (∑ k : Fin 6400, f (Fin.castAdd 1400 k)) = ∑ k : Fin (3200 + 3200), f (Fin.castAdd 1400 k) from rfl, Fin.sum_univ_add]
  rfl

/-- A sum over 600 columns is the sum over its three stretches of 200. -/
theorem sum_three (f : Fin 600 → EReal) :
    ∑ k : Fin 600, f k = (∑ k : Fin 200, f ⟨k.val, by omega⟩) + ((∑ k : Fin 200, f ⟨200 + k.val, by omega⟩) + ∑ k : Fin 200, f ⟨400 + k.val, by omega⟩) := by
  rw [show (∑ k : Fin 600, f k) = ∑ k : Fin (400 + 200), f k from rfl, Fin.sum_univ_add,
    show (∑ k : Fin 400, f (Fin.castAdd 200 k)) = ∑ k : Fin (200 + 200), f (Fin.castAdd 200 k) from rfl, Fin.sum_univ_add, add_assoc]
  rfl

/-- The first CIN layer of one embedding row: the products of its first 39 entries in pairs, times the weights, plus the bias. -/
def cin0 (E : Fin 128 → EReal) (w : Fin 1521 → Fin 200 → EReal) (b : Fin 200 → EReal) (h : Fin 200) : EReal :=
  (∑ k : Fin 1521, E ⟨k.val / 39, by omega⟩ * E ⟨k.val % 39, by omega⟩ * w k h) + b h

/-- A later CIN layer of one embedding row: its first 39 entries times the 200 entries of the layer before, times the
    weights, plus the bias. -/
def cinS (E : Fin 128 → EReal) (c : Fin 200 → EReal) (w : Fin 7800 → Fin 200 → EReal) (b : Fin 200 → EReal) (h : Fin 200) : EReal :=
  (∑ k : Fin 7800, E ⟨k.val / 200, by omega⟩ * c ⟨k.val % 200, by omega⟩ * w k h) + b h

/-- The first layer of finite values is finite. -/
theorem cin0_fin {E : Fin 128 → EReal} {w : Fin 1521 → Fin 200 → EReal} {b : Fin 200 → EReal} (hE : ∀ a, IsFin (E a))
    (hw : ∀ k h, IsFin (w k h)) (hb : ∀ h, IsFin (b h)) (h : Fin 200) : IsFin (cin0 E w b h) :=
  (IsFin.sum _ _ fun k => ((hE _).mul (hE _)).mul (hw k h)).add (hb h)

/-- A later layer of finite values is finite. -/
theorem cinS_fin {E : Fin 128 → EReal} {c : Fin 200 → EReal} {w : Fin 7800 → Fin 200 → EReal} {b : Fin 200 → EReal}
    (hE : ∀ a, IsFin (E a)) (hc : ∀ a, IsFin (c a))
    (hw : ∀ k h, IsFin (w k h)) (hb : ∀ h, IsFin (b h)) (h : Fin 200) : IsFin (cinS E c w b h) :=
  (IsFin.sum _ _ fun k => ((hE _).mul (hc _)).mul (hw k h)).add (hb h)

end Cert.Xdeepfm

end
-- ==== Proof.Cin.lean ====
/- What the second kernel's body computes in its CIN layers, payload by payload, read at an index. -/
module

public import proofs.«01_k».proof.Proof.Gen.KernelIdeal.Skeleton
public import proofs.«01_k».proof.Proof.Num

@[expose] public section

set_option maxRecDepth 16384

noncomputable section

namespace Cert.Xdeepfm

open Idealize.ShloMosaic Idealize.ShloMosaic.TcCoe
open Cert.KernelIdeal Cert.KernelIdeal.Gen

/-- A table of 256 rows, twice the 128 rows of a table that holds a one in column `k` where the row is `j k`. -/
def Hits {n N K : ℕ} (T : FVec Ideal ⟨2, ![N, K]⟩ .bf16) (j : Fin K → Fin n) (hN : N = n + n) : Prop :=
  ∀ (a : Fin n) (k : Fin K), T (ix2 ⟨a.val, by omega⟩ k) = if a = j k then 1 else 0

/-- The expanded row: the embedding row times a one-hot table is the entry that the table names. -/
theorem est1521 (v : FVec Ideal S640x128 .f32) (hv : ∀ i, IsFin (v i)) (T : FVec Ideal S256x1521 .bf16) (j : Fin 1521 → Fin 128)
    (hT : Hits T j rfl) (r : Fin 640) (k : Fin 1521) :
    matmul dot_S640x256_S256x1521_S640x1521_1_0_0_1_n_n none (k1_pay15 v) T (constant S640x1521 .f32 0x00000000#32) (ix2 r k)
      = v (ix2 r (j k)) := by
  pointwise [k1_pay15]
  exact pick (fun a => v (ix2 r a)) _ _ (fun a => hv _) (j k) fun a => hT a k

/-- The same for a chunk of 3200 columns. -/
theorem est3200 (v : FVec Ideal S640x128 .f32) (hv : ∀ i, IsFin (v i)) (T : FVec Ideal S256x3200 .bf16) (j : Fin 3200 → Fin 128)
    (hT : Hits T j rfl) (r : Fin 640) (k : Fin 3200) :
    matmul dot_S640x256_S256x3200_S640x3200_1_0_0_1_n_n none (k1_pay15 v) T (constant S640x3200 .f32 0x00000000#32) (ix2 r k)
      = v (ix2 r (j k)) := by
  pointwise [k1_pay15]
  exact pick (fun a => v (ix2 r a)) _ _ (fun a => hv _) (j k) fun a => hT a k

/-- The same for the last chunk, of 1400 columns. -/
theorem est1400 (v : FVec Ideal S640x128 .f32) (hv : ∀ i, IsFin (v i)) (T : FVec Ideal S256x1400 .bf16) (j : Fin 1400 → Fin 128)
    (hT : Hits T j rfl) (r : Fin 640) (k : Fin 1400) :
    matmul dot_S640x256_S256x1400_S640x1400_1_0_0_1_n_n none (k1_pay15 v) T (constant S640x1400 .f32 0x00000000#32) (ix2 r k)
      = v (ix2 r (j k)) := by
  pointwise [k1_pay15]
  exact pick (fun a => v (ix2 r a)) _ _ (fun a => hv _) (j k) fun a => hT a k

/-- The first CIN layer's payload is the first CIN layer of each embedding row. -/
theorem pay16_at (v : FVec Ideal S640x128 .f32) (hv : ∀ i, IsFin (v i)) (R T : FVec Ideal S256x1521 .bf16)
    (hR : Hits (n := 128) R (fun k => ⟨k.val / 39, by omega⟩) rfl) (hT : Hits (n := 128) T (fun k => ⟨k.val % 39, by omega⟩) rfl)
    (w : FVec Ideal S1521x200 .f32) (b : FVec Ideal S1x200 .f32) (r : Fin 640) (h : Fin 200) :
    k1_pay16 (F := Ideal) v R T w b (ix2 r h)
      = cin0 (fun a => v (ix2 r a)) (fun k h => w (ix2 k h)) (fun h => b (ix2 0 h)) h := by
  have eR := est1521 v hv R _ hR r
  have eT := est1521 v hv T _ hT r
  unfold cin0
  simp only [← eR, ← eT]
  pointwise [k1_pay16]

/-- A CIN layer repeated along the columns of a chunk: column `k` holds entry `k % 200`. -/
theorem rep200 (c : FVec Ideal S640x200 .f32) (hc : ∀ i, IsFin (c i)) (T : FVec Ideal S400x3200 .bf16)
    (hT : Hits T (fun k => (⟨k.val % 200, by omega⟩ : Fin 200)) rfl) (r : Fin 640) (k : Fin 3200) :
    (∑ a : Fin 200, c (ix2 r a) * T (ix2 ⟨a.val, by omega⟩ k)) + ∑ a : Fin 200, (c (ix2 r a) - c (ix2 r a)) * T (ix2 ⟨200 + a.val, by omega⟩ k)
      = c (ix2 r ⟨k.val % 200, by omega⟩) :=
  pick (fun a => c (ix2 r a)) _ _ (fun a => hc _) _ fun a => hT a k

/-- The first layer times the repeating table: column `k` holds the entry `k` modulo 200 of the layer. -/
theorem pay17_at (v : FVec Ideal S640x128 .f32) (R T : FVec Ideal S256x1521 .bf16)
    (w : FVec Ideal S1521x200 .f32) (b : FVec Ideal S1x200 .f32) (hc : ∀ i, IsFin (k1_pay16 (F := Ideal) v R T w b i))
    (U : FVec Ideal S400x3200 .bf16) (hU : Hits U (fun k => (⟨k.val % 200, by omega⟩ : Fin 200)) rfl) (r : Fin 640) (k : Fin 3200) :
    k1_pay17 (F := Ideal) v R T w b U (ix2 r k) = k1_pay16 (F := Ideal) v R T w b (ix2 r ⟨k.val % 200, by omega⟩) := by
  refine Eq.trans ?_ (rep200 (k1_pay16 (F := Ideal) v R T w b) hc U hU r k)
  unfold k1_pay17
  generalize k1_pay16 (F := Ideal) v R T w b = c
  pointwise

/-- The three chunks' products of a later CIN layer, added up with the bias, are that layer of each embedding row:
    `C` is the layer before, repeated along a chunk's columns. -/
theorem chunks (v : FVec Ideal S640x128 .f32) (hv : ∀ i, IsFin (v i)) (c : FVec Ideal S640x200 .f32)
    (C : FVec Ideal S640x3200 .f32) (hC : ∀ r k, C (ix2 r k) = c (ix2 r ⟨k.val % 200, by omega⟩))
    (T0 T1 : FVec Ideal S256x3200 .bf16) (T2 : FVec Ideal S256x1400 .bf16)
    (hT0 : Hits (n := 128) T0 (fun k => ⟨k.val / 200, by omega⟩) rfl)
    (hT1 : Hits (n := 128) T1 (fun k => ⟨(3200 + k.val) / 200, by omega⟩) rfl)
    (hT2 : Hits (n := 128) T2 (fun k => ⟨(6400 + k.val) / 200, by omega⟩) rfl)
    (w0 w1 : FVec Ideal S3200x200 .f32) (w2 : FVec Ideal S1400x200 .f32) (w : Fin 7800 → Fin 200 → EReal)
    (hw0 : ∀ k h, w0 (ix2 k h) = w ⟨k.val, by omega⟩ h) (hw1 : ∀ k h, w1 (ix2 k h) = w ⟨3200 + k.val, by omega⟩ h)
    (hw2 : ∀ k h, w2 (ix2 k h) = w ⟨6400 + k.val, by omega⟩ h)
    (b : FVec Ideal S1x200 .f32) (r : Fin 640) (h : Fin 200) :
    k1_pay19 (F := Ideal) (k1_pay15 v) C (mulf (matmul dot_S640x256_S256x3200_S640x3200_1_0_0_1_n_n none (k1_pay15 v) T0 (constant S640x3200 .f32 0x00000000#32)) C)
      w0 (constant S640x200 .f32 0x00000000#32) T1 w1 T2 w2 b (ix2 r h)
      = cinS (fun a => v (ix2 r a)) (fun a => c (ix2 r a)) w (fun h => b (ix2 0 h)) h := by
  have e0 := est3200 v hv T0 _ hT0 r
  have e1 := est3200 v hv T1 _ hT1 r
  have e2 := est1400 v hv T2 _ hT2 r
  unfold cinS
  rw [sum_chunks]
  have m1 : ∀ k : Fin 3200, (⟨(3200 + k.val) % 200, by omega⟩ : Fin 200) = ⟨k.val % 200, by omega⟩ := fun k => Fin.ext (by show _ % _ = _ % _; omega)
  have m2 : ∀ k : Fin 1400, (⟨(6400 + k.val) % 200, by omega⟩ : Fin 200) = ⟨k.val % 200, by omega⟩ := fun k => Fin.ext (by show _ % _ = _ % _; omega)
  have c2 : ∀ k : Fin 1400, C (ix2 r ⟨k.val, by omega⟩) = c (ix2 r ⟨k.val % 200, by omega⟩) := fun k => hC r ⟨k.val, by omega⟩
  simp only [m1, m2, ← e0, ← e1, ← e2, ← hC r, ← c2, ← hw0, ← hw1, ← hw2]
  generalize k1_pay15 (F := Ideal) v = E
  pointwise [k1_pay19]

/-- The second layer's payload, repeated along a chunk's columns. -/
theorem pay20_at (E : FVec Ideal S640x256 .bf16) (C X : FVec Ideal S640x3200 .f32) (w0 : FVec Ideal S3200x200 .f32)
    (z : FVec Ideal S640x200 .f32) (T1 : FVec Ideal S256x3200 .bf16) (w1 : FVec Ideal S3200x200 .f32) (T2 : FVec Ideal S256x1400 .bf16)
    (w2 : FVec Ideal S1400x200 .f32) (b : FVec Ideal S1x200 .f32)
    (hc : ∀ i, IsFin (k1_pay19 (F := Ideal) E C X w0 z T1 w1 T2 w2 b i))
    (U : FVec Ideal S400x3200 .bf16) (hU : Hits U (fun k => (⟨k.val % 200, by omega⟩ : Fin 200)) rfl) (r : Fin 640) (k : Fin 3200) :
    k1_pay20 (F := Ideal) E C X w0 z T1 w1 T2 w2 b U (ix2 r k)
      = k1_pay19 (F := Ideal) E C X w0 z T1 w1 T2 w2 b (ix2 r ⟨k.val % 200, by omega⟩) := by
  refine Eq.trans ?_ (rep200 (k1_pay19 (F := Ideal) E C X w0 z T1 w1 T2 w2 b) hc U hU r k)
  unfold k1_pay20
  generalize k1_pay19 (F := Ideal) E C X w0 z T1 w1 T2 w2 b = c
  pointwise

/-- One layer's part of the CIN logit: the layer's entries summed over the ten embedding coordinates, times the weights
    `o, o + 1, …` of the last product. -/
def pool (c : Fin 640 → Fin 200 → EReal) (clw : Fin 600 → EReal) (o : ℕ) (ho : o ≤ 400) (n : Fin 64) : EReal :=
  ∑ h : Fin 200, (∑ d : Fin 10, c ⟨d.val * 64 + n.val, by omega⟩ h) * clw ⟨o + h.val, by omega⟩

/-- The CIN logit: the third layer, and the three layers' pooled entries times the weights. -/
theorem pay22_at (v : FVec Ideal S640x128 .f32) (hv : ∀ i, IsFin (v i)) (c1 c2 : FVec Ideal S640x200 .f32)
    (C : FVec Ideal S640x3200 .f32) (hC : ∀ r k, C (ix2 r k) = c2 (ix2 r ⟨k.val % 200, by omega⟩))
    (T0 T1 : FVec Ideal S256x3200 .bf16) (T2 : FVec Ideal S256x1400 .bf16)
    (hT0 : Hits (n := 128) T0 (fun k => ⟨k.val / 200, by omega⟩) rfl)
    (hT1 : Hits (n := 128) T1 (fun k => ⟨(3200 + k.val) / 200, by omega⟩) rfl)
    (hT2 : Hits (n := 128) T2 (fun k => ⟨(6400 + k.val) / 200, by omega⟩) rfl)
    (w0 w1 : FVec Ideal S3200x200 .f32) (w2 : FVec Ideal S1400x200 .f32) (w : Fin 7800 → Fin 200 → EReal)
    (hw0 : ∀ k h, w0 (ix2 k h) = w ⟨k.val, by omega⟩ h) (hw1 : ∀ k h, w1 (ix2 k h) = w ⟨3200 + k.val, by omega⟩ h)
    (hw2 : ∀ k h, w2 (ix2 k h) = w ⟨6400 + k.val, by omega⟩ h)
    (b : FVec Ideal S1x200 .f32) (clw : FVec Ideal S600x1 .f32) (n : Fin 64) :
    k1_pay22 (F := Ideal) (k1_pay15 v) c1 c2 C
      (matmul dot_S640x3200_S3200x200_S640x200_1_0_0_1_n_n none
        (mulf (matmul dot_S640x256_S256x3200_S640x3200_1_0_0_1_n_n none (k1_pay15 v) T0 (constant S640x3200 .f32 0x00000000#32)) C)
        w0 (constant S640x200 .f32 0x00000000#32)) T1 w1 T2 w2 b clw (ix2 n 0)
      = pool (fun r h => c1 (ix2 r h)) (fun q => clw (ix2 q 0)) 0 (by omega) n
        + (pool (fun r h => c2 (ix2 r h)) (fun q => clw (ix2 q 0)) 200 (by omega) n
          + pool (fun r h => cinS (fun a => v (ix2 r a)) (fun a => c2 (ix2 r a)) w (fun h => b (ix2 0 h)) h) (fun q => clw (ix2 q 0)) 400 (by omega) n) := by
  have h3 := fun r h => chunks v hv c2 C hC T0 T1 T2 hT0 hT1 hT2 w0 w1 w2 w hw0 hw1 hw2 b r h
  unfold pool
  simp only [← h3]
  generalize k1_pay15 (F := Ideal) v = E
  pointwise [k1_pay19, k1_pay22]
  rw [sum_three]
  refine congrArg₂ (· + ·) ?_ (congrArg₂ (· + ·) ?_ ?_) <;> refine Finset.sum_congr rfl fun h _ => ?_
  · rw [dif_pos (by have := h.isLt; exact this)]
  · rw [dif_neg (by simp), dif_pos (by have := h.isLt; simp only; omega)]
    simp only [Nat.add_sub_cancel_left]
  · rw [dif_neg (by simp only; omega), dif_neg (by simp only; omega)]
    simp only [show 400 + h.val - 200 - 200 = h.val by omega]

end Cert.Xdeepfm

end
-- ==== Proof.Tables.lean ====
/- What the host operations before the first call leave in the tables and the reshaped biases, read at an index. -/
module

public import proofs.«01_k».proof.Proof.Gen.KernelIdeal.Launch
public import proofs.«01_k».proof.Proof.Cin
public import Idealize.ShloMosaic.Lib.StableHlo.ReadAt
public import Idealize.ShloMosaic.Lib.Tactic.WordOmega

@[expose] public section

set_option maxRecDepth 16384

noncomputable section

namespace Cert.Xdeepfm

open Idealize.ShloMosaic Idealize.ShloMosaic.TcCoe Cert.KernelIdeal Cert.KernelIdeal.Gen

variable (V : Valuation τ sig (Elt Ideal))

/-- Choosing one or zero by the comparison of two index words. -/
theorem sel_eq (x y : ℕ) (hx : x < 4294967296) (hy : y < 4294967296) :
    Scalar.select (IntOp.cmpi CmpIPredicate.eq (BitVec.ofNat 32 x) (BitVec.ofNat 32 y)) (1 : EReal) 0 = if x = y then 1 else 0 := by
  have h : (BitVec.ofNat 32 x = BitVec.ofNat 32 y) ↔ x = y := by
    constructor
    · intro e
      have := congrArg BitVec.toNat e
      simp only [BitVec.toNat_ofNat] at this
      omega
    · rintro rfl; rfl
  word_omega

/-- The same, for two comparisons that both have to hold. -/
theorem sel_and (x y x' y' : ℕ) (hx : x < 4294967296) (hy : y < 4294967296) (hx' : x' < 4294967296) (hy' : y' < 4294967296) :
    Scalar.select (IntOp.andi (IntOp.cmpi CmpIPredicate.eq (BitVec.ofNat 32 x) (BitVec.ofNat 32 y))
      (IntOp.cmpi CmpIPredicate.eq (BitVec.ofNat 32 x') (BitVec.ofNat 32 y'))) (1 : EReal) 0 = if x = y ∧ x' = y' then 1 else 0 := by
  have b : ∀ p q : Bool, Scalar.select (IntOp.andi (BitVec.ofBool p) (BitVec.ofBool q)) (1 : EReal) 0
      = Scalar.select (BitVec.ofBool p) (Scalar.select (BitVec.ofBool q) 1 0) 0 := by
    intro p q; cases p <;> cases q <;> simp [Scalar.select, IntOp.andi]
  refine (b _ _).trans ?_
  have h1 := sel_eq x' y' hx' hy'
  unfold IntOp.cmpi at h1
  simp only at h1 ⊢
  rw [h1]
  have h2 := sel_eq x y hx hy
  unfold IntOp.cmpi at h2
  simp only at h2
  by_cases e : x = y
  · subst e; simp [Scalar.select]
  · have e' : ¬ BitVec.ofNat 32 x = BitVec.ofNat 32 y := fun h => e (by
      have := congrArg BitVec.toNat h
      simp only [BitVec.toNat_ofNat] at this
      omega)
    rw [beq_eq_false_iff_ne.mpr e', if_neg (show ¬(x = y ∧ x' = y') from fun h => e h.1)]
    rfl

/-- A bias as the second call reads it. -/
theorem b38_at (h : Fin 200) : StableHlo.after (hostOps0 (F := Ideal)) V (Proc.devRef .tc main_call0_v38) (ix2 0 h) = V (Proc.devRef .tc main_arg6) (ix1 h) := by
  after_reads_at

/-- The second interaction bias, laid out as a row. -/
theorem b39_at (h : Fin 200) : StableHlo.after (hostOps0 (F := Ideal)) V (Proc.devRef .tc main_call0_v39) (ix2 0 h) = V (Proc.devRef .tc main_arg8) (ix1 h) := by
  after_reads_at

/-- The third interaction bias, laid out as a row. -/
theorem b40_at (h : Fin 200) : StableHlo.after (hostOps0 (F := Ideal)) V (Proc.devRef .tc main_call0_v40) (ix2 0 h) = V (Proc.devRef .tc main_arg10) (ix1 h) := by
  after_reads_at

/-- The first dense bias, laid out as a row. -/
theorem b41_at (h : Fin 400) : StableHlo.after (hostOps0 (F := Ideal)) V (Proc.devRef .tc main_call0_v41) (ix2 0 h) = V (Proc.devRef .tc main_arg14) (ix1 h) := by
  after_reads_at

/-- The second dense bias, laid out as a row. -/
theorem b42_at (h : Fin 400) : StableHlo.after (hostOps0 (F := Ideal)) V (Proc.devRef .tc main_call0_v42) (ix2 0 h) = V (Proc.devRef .tc main_arg16) (ix1 h) := by
  after_reads_at

/-- The sum of the four scalar biases. -/
theorem cb_at (p q r s : FVec Ideal S1 .f32) (hp : V (Proc.devRef .tc main_arg2) = p) (hq : V (Proc.devRef .tc main_arg12) = q)
    (hr : V (Proc.devRef .tc main_arg18) = r) (hs : V (Proc.devRef .tc main_arg19) = s) :
    StableHlo.after (hostOps0 (F := Ideal)) V (Proc.devRef .tc main_call0_v46) (ix2 0 0) = ((p (ix1 0) + q (ix1 0)) + r (ix1 0)) + s (ix1 0) := by
  subst hp hq hr hs
  after_reads_at

/-- The numeric embedding weights as the first call reads them, in one row. -/
theorem wn_at (q : Fin 130) : StableHlo.after (hostOps0 (F := Ideal)) V (Proc.devRef .tc main_call0_v37) (ix2 0 q) = V (Proc.devRef .tc main_arg3) (ix2 ⟨q.val / 10, by omega⟩ ⟨q.val % 10, by omega⟩) := by
  after_reads_at

/-- The table that reorders the embeddings has a one where field and coordinate agree. -/
theorem perm_at (q : Fin 390) (k : Fin 1280) : StableHlo.after (hostOps0 (F := Ideal)) V (Proc.devRef .tc main_call0_v8) (ix2 q k) = if q.val % 10 = k.val / 128 ∧ q.val / 10 = k.val % 128 then (1 : EReal) else 0 := by
  after_reads_at
  exact sel_and _ _ _ _ (by omega) (by omega) (by omega) (by omega)

/-- The first layer's left table names the pair's first field. -/
theorem r0_at : Hits (n := 128) (StableHlo.after (hostOps0 (F := Ideal)) V (Proc.devRef .tc main_call0_v33)) (fun k : Fin 1521 => ⟨k.val / 39, by omega⟩) rfl := by
  intro a k
  after_reads_at
  after_reads_at
  simp only [Fin.ext_iff]
  exact sel_eq _ _ (by omega) (by omega)

/-- The first layer's right table names the pair's second field. -/
theorem t0_at : Hits (n := 128) (StableHlo.after (hostOps0 (F := Ideal)) V (Proc.devRef .tc main_call0_v34)) (fun k : Fin 1521 => ⟨k.val % 39, by omega⟩) rfl := by
  intro a k
  after_reads_at
  after_reads_at
  simp only [Fin.ext_iff]
  exact sel_eq _ _ (by omega) (by omega)

/-- The later layers' left table names the pair's field. -/
theorem r1_at : Hits (n := 128) (StableHlo.after (hostOps0 (F := Ideal)) V (Proc.devRef .tc main_call0_v35)) (fun k : Fin 7800 => ⟨k.val / 200, by omega⟩) rfl := by
  intro a k
  after_reads_at
  after_reads_at
  simp only [Fin.ext_iff]
  exact sel_eq _ _ (by omega) (by omega)

/-- The later layers' right table names the pair's entry of the layer before. -/
theorem t1_at : Hits (n := 200) (StableHlo.after (hostOps0 (F := Ideal)) V (Proc.devRef .tc main_call0_v36)) (fun k : Fin 3200 => ⟨k.val % 200, by omega⟩) rfl := by
  intro a k
  after_reads_at
  after_reads_at
  simp only [Fin.ext_iff]
  exact sel_eq _ _ (by omega) (by omega)

/-- The words of the table that repeats the numeric fields. -/
theorem lit_at : ∀ (b : Fin 13) (q : Fin 130), lit0 (S13x130.rowMajor (ix2 b q)) = if b.val = q.val / 10 then 0x3F800000#32 else 0#32 := by
  decide +kernel

/-- The table that repeats the numeric fields has a one where the column belongs to the field. -/
theorem repn_at (b : Fin 13) (q : Fin 130) : StableHlo.after (hostOps0 (F := Ideal)) V (Proc.devRef .tc main_call0_cst) (ix2 b q) = if b = ⟨q.val / 10, by omega⟩ then (1 : EReal) else 0 := by
  after_reads_at
  rw [lit_at b q]
  simp only [Fin.ext_iff]
  split_ifs
  · exact Ideal.ofBits_one_f32
  · exact Ideal.ofBits_zero_f32

end Cert.Xdeepfm
-- ==== Proof.Blocks.lean ====
/- The blocks of the second call: the rows of the embedding table that a grid point loads, and the other operands whole. -/
module

public import proofs.«01_k».proof.Proof.IdealCin
public import Idealize.ShloMosaic.Lib.Pipeline.ValueKit
public import Idealize.ShloMosaic.Lib.Pointwise

@[expose] public section

set_option maxRecDepth 16384
set_option maxHeartbeats 2000000

noncomputable section

namespace Cert.KernelIdeal.Gen

open Idealize.ShloMosaic Idealize.ShloMosaic.TcCoe Cert.KernelIdeal

variable (V : (c : Dev nD) → (b : Ref sig .tc) → Buf (Elt Ideal) ((c : Thread nD τ).loc b))

/-- The block indices of the windows: the first and the last move with the grid point, the others stay. -/
theorem idx1 : ∀ t : Fin cfg1.N, win1_0.index t = ![t.val, 0] ∧ win1_19.index t = ![t.val, 0] ∧ win1_1.index t = ![0, 0] ∧ win1_2.index t = ![0, 0] ∧ win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![0, 0] ∧ win1_12.index t = ![0, 0] ∧ win1_13.index t = ![0, 0] ∧ win1_14.index t = ![0, 0] ∧ win1_15.index t = ![0, 0] ∧ win1_16.index t = ![0, 0] ∧ win1_17.index t = ![0, 0] ∧ win1_18.index t = ![0, 0] :=
  (by decide +kernel : ∀ t : Fin grid1.N, _)

/-- Row `n` of the block at point `t` is row `64 * t + n` of the embedding table. -/
theorem blk1_0 (c : Dev nD) (t : Fin cfg1.N) (n : Fin 64) (q : Fin 391) :
    (iblk1 V c 0 t : FVec Ideal S64x391 .f32) (ix2 n q)
      = (V c main_call0_v47 : FVec Ideal S1024x391 .f32) (ix2 ⟨t.val * 64 + n.val, by have : t.val < 16 := t.isLt; omega⟩ q) := by
  unfold iblk1
  blk_ext [idx1 t]

/-- The block of window 1 is its whole array. -/
theorem blk1_1 (c : Dev nD) (t : Fin cfg1.N) : (iblk1 V c 1 t : FVec Ideal S1521x200 .f32) = V c main_arg5 := by
  funext i
  unfold iblk1
  blk_ext [idx1 t]

/-- The block of window 2 is its whole array. -/
theorem blk1_2 (c : Dev nD) (t : Fin cfg1.N) : (iblk1 V c 2 t : FVec Ideal S1x200 .f32) = V c main_call0_v38 := by
  funext i
  unfold iblk1
  blk_ext [idx1 t]

/-- The block of window 3 is its whole array. -/
theorem blk1_3 (c : Dev nD) (t : Fin cfg1.N) : (iblk1 V c 3 t : FVec Ideal S7800x200 .f32) = V c main_arg7 := by
  funext i
  unfold iblk1
  blk_ext [idx1 t]

/-- The block of window 4 is its whole array. -/
theorem blk1_4 (c : Dev nD) (t : Fin cfg1.N) : (iblk1 V c 4 t : FVec Ideal S1x200 .f32) = V c main_call0_v39 := by
  funext i
  unfold iblk1
  blk_ext [idx1 t]

/-- The block of window 5 is its whole array. -/
theorem blk1_5 (c : Dev nD) (t : Fin cfg1.N) : (iblk1 V c 5 t : FVec Ideal S7800x200 .f32) = V c main_arg9 := by
  funext i
  unfold iblk1
  blk_ext [idx1 t]

/-- The block of window 6 is its whole array. -/
theorem blk1_6 (c : Dev nD) (t : Fin cfg1.N) : (iblk1 V c 6 t : FVec Ideal S1x200 .f32) = V c main_call0_v40 := by
  funext i
  unfold iblk1
  blk_ext [idx1 t]

/-- The block of window 7 is its whole array. -/
theorem blk1_7 (c : Dev nD) (t : Fin cfg1.N) : (iblk1 V c 7 t : FVec Ideal S600x1 .f32) = V c main_arg11 := by
  funext i
  unfold iblk1
  blk_ext [idx1 t]

/-- The block of window 8 is its whole array. -/
theorem blk1_8 (c : Dev nD) (t : Fin cfg1.N) : (iblk1 V c 8 t : FVec Ideal S390x400 .f32) = V c main_arg13 := by
  funext i
  unfold iblk1
  blk_ext [idx1 t]

/-- The block of window 9 is its whole array. -/
theorem blk1_9 (c : Dev nD) (t : Fin cfg1.N) : (iblk1 V c 9 t : FVec Ideal S1x400 .f32) = V c main_call0_v41 := by
  funext i
  unfold iblk1
  blk_ext [idx1 t]

/-- The block of window 10 is its whole array. -/
theorem blk1_10 (c : Dev nD) (t : Fin cfg1.N) : (iblk1 V c 10 t : FVec Ideal S400x400 .f32) = V c main_arg15 := by
  funext i
  unfold iblk1
  blk_ext [idx1 t]

/-- The block of window 11 is its whole array. -/
theorem blk1_11 (c : Dev nD) (t : Fin cfg1.N) : (iblk1 V c 11 t : FVec Ideal S1x400 .f32) = V c main_call0_v42 := by
  funext i
  unfold iblk1
  blk_ext [idx1 t]

/-- The block of window 12 is its whole array. -/
theorem blk1_12 (c : Dev nD) (t : Fin cfg1.N) : (iblk1 V c 12 t : FVec Ideal S400x1 .f32) = V c main_arg17 := by
  funext i
  unfold iblk1
  blk_ext [idx1 t]

/-- The block of window 13 is its whole array. -/
theorem blk1_13 (c : Dev nD) (t : Fin cfg1.N) : (iblk1 V c 13 t : FVec Ideal S390x1280 .f32) = V c main_call0_v8 := by
  funext i
  unfold iblk1
  blk_ext [idx1 t]

/-- The block of window 14 is its whole array. -/
theorem blk1_14 (c : Dev nD) (t : Fin cfg1.N) : (iblk1 V c 14 t : FVec Ideal S256x1521 .bf16) = V c main_call0_v33 := by
  funext i
  unfold iblk1
  blk_ext [idx1 t]

/-- The block of window 15 is its whole array. -/
theorem blk1_15 (c : Dev nD) (t : Fin cfg1.N) : (iblk1 V c 15 t : FVec Ideal S256x1521 .bf16) = V c main_call0_v34 := by
  funext i
  unfold iblk1
  blk_ext [idx1 t]

/-- The block of window 16 is its whole array. -/
theorem blk1_16 (c : Dev nD) (t : Fin cfg1.N) : (iblk1 V c 16 t : FVec Ideal S256x7800 .bf16) = V c main_call0_v35 := by
  funext i
  unfold iblk1
  blk_ext [idx1 t]

/-- The block of window 17 is its whole array. -/
theorem blk1_17 (c : Dev nD) (t : Fin cfg1.N) : (iblk1 V c 17 t : FVec Ideal S400x3200 .bf16) = V c main_call0_v36 := by
  funext i
  unfold iblk1
  blk_ext [idx1 t]

/-- The block of window 18 is its whole array. -/
theorem blk1_18 (c : Dev nD) (t : Fin cfg1.N) : (iblk1 V c 18 t : FVec Ideal S1x1 .f32) = V c main_call0_v46 := by
  funext i
  unfold iblk1
  blk_ext [idx1 t]

end Cert.KernelIdeal.Gen
-- ==== Proof.Row.lean ====
/- The last steps of one row of the second call: the embedding table's transposed copy, the dense layers and the result. -/
module

public import proofs.«01_k».proof.Proof.Cin

@[expose] public section

set_option maxRecDepth 16384

noncomputable section

namespace Cert.Xdeepfm

open Idealize.ShloMosaic Cert.KernelIdeal Cert.KernelIdeal.Gen

/-- The two dense layers with their rectifiers and the last product, of one row's 390 embedding entries. -/
def dense (e : Fin 390 → EReal) (w0 : Fin 390 → Fin 400 → EReal) (b0 : Fin 400 → EReal) (w1 : Fin 400 → Fin 400 → EReal)
    (b1 : Fin 400 → EReal) (lw : Fin 400 → EReal) : EReal :=
  ∑ j : Fin 400, max ((∑ i : Fin 400, max ((∑ q : Fin 390, e q * w0 q i) + b0 i) 0 * w1 i j) + b1 j) 0 * lw j

/-- The stored value: the logistic function of the three logits and the constant. -/
theorem pay1_at (v3 v161 : FVec Ideal S64x1 .f32) (v1 : FVec Ideal S64x390 .f32) (w0 : FVec Ideal S390x400 .f32) (b0 : FVec Ideal S1x400 .f32)
    (w1 : FVec Ideal S400x400 .f32) (b1 : FVec Ideal S1x400 .f32) (lw : FVec Ideal S400x1 .f32) (cb : EReal) (n : Fin 64) :
    k1_pay1 (F := Ideal) v3 v161 (k1_pay23 v1 w0 b0) k1_pay24 w1 b1 lw cb (ix2 n 0)
      = Ideal.logistic (v3 (ix2 n 0) + v161 (ix2 n 0)
          + dense (fun q => v1 (ix2 n q)) (fun q i => w0 (ix2 q i)) (fun i => b0 (ix2 0 i)) (fun i j => w1 (ix2 i j)) (fun j => b1 (ix2 0 j)) (fun j => lw (ix2 j 0))
          + cb) := by
  unfold dense
  pointwise [k1_pay1, k1_pay23, k1_pay24]

/-- The product with the table that moves entry `10 * f + d` of a row to column `128 * d + f` (columns past `f = 38` are zero). -/
theorem pay4_at (v : FVec Ideal S64x390 .f32) (hv : ∀ i, IsFin (v i)) (p : FVec Ideal S390x1280 .f32)
    (hp : ∀ (q : Fin 390) (k : Fin 1280), p (ix2 q k) = if q.val % 10 = k.val / 128 ∧ q.val / 10 = k.val % 128 then 1 else 0)
    (n : Fin 64) (d : Fin 10) (f : Fin 128) :
    k1_pay4 (F := Ideal) v p p (ix2 n ⟨d.val * 128 + f.val, by omega⟩)
      = if h : f.val < 39 then v (ix2 n ⟨f.val * 10 + d.val, by omega⟩) else 0 := by
  pointwise [k1_pay4, k1_pay2]
  have hlo : ∀ q : Fin 390, v (ix2 n q) - v (ix2 n q) = 0 := fun q => (hv _).sub_self
  simp only [hlo, zero_mul, Finset.sum_const_zero, add_zero, hp]
  split_ifs with h
  · refine (sum_hit _ _ (⟨f.val * 10 + d.val, by omega⟩ : Fin 390) fun q => ?_)
    refine if_congr ⟨fun e => Fin.ext ?_, fun e => ?_⟩ rfl rfl
    · have h1 := e.1; have h2 := e.2; simp only at h1 h2 ⊢; omega
    · subst e
      have e1 : (f.val * 10 + d.val) / 10 = f.val := by omega
      have e2 : (d.val * 128 + f.val) / 128 = d.val := by omega
      have e3 : (f.val * 10 + d.val) % 10 = d.val := by omega
      have e4 : (d.val * 128 + f.val) % 128 = f.val := by omega
      simp only [e1, e2, e3, e4, and_self]
  · refine sum_miss _ _ fun q => if_neg fun e => ?_
    have e2 : (d.val * 128 + f.val) / 128 = d.val := by omega
    have e4 : (d.val * 128 + f.val) % 128 = f.val := by omega
    have h1 := e.1; have h2 := e.2; have := q.isLt
    simp only [e2] at h1; simp only [e4] at h2; omega

end Cert.Xdeepfm
-- ==== Proof.Net.lean ====
/- The whole network of one row of the batch, as a function of the row's embeddings and of the weights. -/
module

public import proofs.«01_k».proof.Proof.Row

@[expose] public section

set_option maxRecDepth 16384

noncomputable section

namespace Cert.Xdeepfm

open Idealize.ShloMosaic

/-- The embedding of field `f` of a row, coordinate `d`: a numeric field scales its weights, a categorical field sums its
    thousand weights by the row's thousand entries. -/
def emb (x : Fin 26013 → EReal) (wn : Fin 13 → Fin 10 → EReal) (wc : Fin 26 → Fin 1000 → Fin 10 → EReal) (f : Fin 39) (d : Fin 10) : EReal :=
  if h : f.val < 13 then x ⟨f.val, by omega⟩ * wn ⟨f.val, h⟩ d
  else ∑ k : Fin 1000, x ⟨13 + ((f.val - 13) * 1000 + k.val), by omega⟩ * wc ⟨f.val - 13, by omega⟩ k d

/-- A row's embeddings at one coordinate, the 39 fields followed by zeros. -/
def eRow (e : Fin 39 → Fin 10 → EReal) (d : Fin 10) (a : Fin 128) : EReal := if h : a.val < 39 then e ⟨a.val, h⟩ d else 0

/-- The first interaction layer at coordinate `d`. -/
def lay1 (e : Fin 39 → Fin 10 → EReal) (w0 : Fin 1521 → Fin 200 → EReal) (b0 : Fin 200 → EReal) (d : Fin 10) (h : Fin 200) : EReal :=
  cin0 (eRow e d) w0 b0 h

/-- A later interaction layer at coordinate `d`, from the layer before. -/
def layS (e : Fin 39 → Fin 10 → EReal) (c : Fin 10 → Fin 200 → EReal) (w : Fin 7800 → Fin 200 → EReal) (b : Fin 200 → EReal) (d : Fin 10) (h : Fin 200) : EReal :=
  cinS (eRow e d) (c d) w b h

/-- One layer's part of the logit: its entries summed over the coordinates, times the weights from `o` on. -/
def poolR (c : Fin 10 → Fin 200 → EReal) (clw : Fin 600 → EReal) (o : ℕ) (ho : o ≤ 400) : EReal :=
  ∑ h : Fin 200, (∑ d : Fin 10, c d h) * clw ⟨o + h.val, by omega⟩

/-- The logit of the three interaction layers, without its bias. -/
def cinLogit (e : Fin 39 → Fin 10 → EReal) (w0 : Fin 1521 → Fin 200 → EReal) (b0 : Fin 200 → EReal) (w1 : Fin 7800 → Fin 200 → EReal) (b1 : Fin 200 → EReal)
    (w2 : Fin 7800 → Fin 200 → EReal) (b2 : Fin 200 → EReal) (clw : Fin 600 → EReal) : EReal :=
  poolR (lay1 e w0 b0) clw 0 (by omega) + (poolR (layS e (lay1 e w0 b0) w1 b1) clw 200 (by omega)
    + poolR (layS e (layS e (lay1 e w0 b0) w1 b1) w2 b2) clw 400 (by omega))

/-- The embeddings of a row laid out one field after another. -/
def flatE (e : Fin 39 → Fin 10 → EReal) (q : Fin 390) : EReal := e ⟨q.val / 10, by omega⟩ ⟨q.val % 10, by omega⟩

end Cert.Xdeepfm
-- ==== Proof.Body.lean ====
/- What the second call's body stores, as a function of the blocks it loads: the network's value at each row of the block. -/
module

public import proofs.«01_k».proof.Proof.Net

@[expose] public section

set_option maxRecDepth 16384

noncomputable section

namespace Cert.Xdeepfm

open Idealize.ShloMosaic Cert.KernelIdeal Cert.KernelIdeal.Gen

/-- A finite table, from finite entries. -/
theorem fin_of_ix2 {a b : ℕ} (c : (⟨2, ![a, b]⟩ : Shape).Idx → EReal) (h : ∀ i j, IsFin (c (ix2 i j))) (i : (⟨2, ![a, b]⟩ : Shape).Idx) : IsFin (c i) := by
  rw [eq_ix2 i]
  exact h _ _

/-- A reshape to the same shape changes nothing. -/
theorem pay2_eq (v : FVec Ideal S64x390 .f32) : k1_pay2 (F := Ideal) v = v := by
  funext i
  rw [eq_ix2 i]
  pointwise [k1_pay2]

/-- A reshape to the same shape changes nothing. -/
theorem pay3_eq (v : FVec Ideal S64x1 .f32) : k1_pay3 (F := Ideal) v = v := by
  funext i
  rw [eq_ix2 i]
  pointwise [k1_pay3]

/-- A reshape to the same shape changes nothing. -/
theorem cast3200 (T : FVec Ideal S256x3200 .bf16) : shapeCast S256x3200 T shapeCasts_S256x3200_S256x3200 = T := by
  funext i
  rw [eq_ix2 i]
  pointwise

/-- The second layer's first chunk is the expanded rows times the repeated first layer. -/
theorem pay18_eq (v : FVec Ideal S640x128 .f32) (R T : FVec Ideal S256x1521 .bf16) (w : FVec Ideal S1521x200 .f32) (b : FVec Ideal S1x200 .f32)
    (U : FVec Ideal S400x3200 .bf16) (T0 : FVec Ideal S256x3200 .bf16) :
    k1_pay18 (F := Ideal) v R T w b U T0
      = mulf (matmul dot_S640x256_S256x3200_S640x3200_1_0_0_1_n_n none (k1_pay15 v) T0 (constant S640x3200 .f32 0x00000000#32)) (k1_pay17 v R T w b U) := by
  unfold k1_pay18
  simp only [cast3200]

/-- The third layer's first chunk is the expanded rows times the repeated second layer, times the weights. -/
theorem pay21_eq (E : FVec Ideal S640x256 .bf16) (C X : FVec Ideal S640x3200 .f32) (w0 : FVec Ideal S3200x200 .f32)
    (z : FVec Ideal S640x200 .f32) (T1 : FVec Ideal S256x3200 .bf16) (w1 : FVec Ideal S3200x200 .f32) (T2 : FVec Ideal S256x1400 .bf16)
    (w2 : FVec Ideal S1400x200 .f32) (b : FVec Ideal S1x200 .f32) (U : FVec Ideal S400x3200 .bf16) (T0 : FVec Ideal S256x3200 .bf16) (x0 : FVec Ideal S3200x200 .f32) :
    k1_pay21 (F := Ideal) E C X w0 z T1 w1 T2 w2 b U T0 x0
      = matmul dot_S640x3200_S3200x200_S640x200_1_0_0_1_n_n none
          (mulf (matmul dot_S640x256_S256x3200_S640x3200_1_0_0_1_n_n none E T0 (constant S640x3200 .f32 0x00000000#32)) (k1_pay20 E C X w0 z T1 w1 T2 w2 b U))
          x0 (constant S640x200 .f32 0x00000000#32) := by
  unfold k1_pay21
  simp only [cast3200]

/-- The stored value of row `n` of the block is the logistic function of the row's linear logit, the interaction layers' logit, the
    dense layers' logit and the constant. -/
theorem body_at (e : Fin 64 → Fin 39 → Fin 10 → EReal) (he : ∀ n f d, IsFin (e n f d))
    (ed : FVec Ideal S640x128 .f32)
    (hed : ∀ (d : Fin 10) (n : Fin 64) (f : Fin 128), ed (ix2 ⟨d.val * 64 + n.val, by omega⟩ f) = eRow (e n) d f)
    (v : FVec Ideal S64x390 .f32) (hv : ∀ n q, v (ix2 n q) = flatE (e n) q) (l : FVec Ideal S64x1 .f32)
    (R T : FVec Ideal S256x1521 .bf16)
    (hR : Hits (n := 128) R (fun k => ⟨k.val / 39, by omega⟩) rfl) (hT : Hits (n := 128) T (fun k => ⟨k.val % 39, by omega⟩) rfl)
    (w0 : FVec Ideal S1521x200 .f32) (hw0 : ∀ i, IsFin (w0 i)) (b0 : FVec Ideal S1x200 .f32) (hb0 : ∀ i, IsFin (b0 i))
    (U : FVec Ideal S400x3200 .bf16) (hU : Hits U (fun k => (⟨k.val % 200, by omega⟩ : Fin 200)) rfl)
    (T0 T1 : FVec Ideal S256x3200 .bf16) (T2 : FVec Ideal S256x1400 .bf16)
    (hT0 : Hits (n := 128) T0 (fun k => ⟨k.val / 200, by omega⟩) rfl)
    (hT1 : Hits (n := 128) T1 (fun k => ⟨(3200 + k.val) / 200, by omega⟩) rfl)
    (hT2 : Hits (n := 128) T2 (fun k => ⟨(6400 + k.val) / 200, by omega⟩) rfl)
    (w10 w11 : FVec Ideal S3200x200 .f32) (w12 : FVec Ideal S1400x200 .f32) (w1 : Fin 7800 → Fin 200 → EReal) (hw1 : ∀ k h, IsFin (w1 k h))
    (hw10 : ∀ k h, w10 (ix2 k h) = w1 ⟨k.val, by omega⟩ h) (hw11 : ∀ k h, w11 (ix2 k h) = w1 ⟨3200 + k.val, by omega⟩ h)
    (hw12 : ∀ k h, w12 (ix2 k h) = w1 ⟨6400 + k.val, by omega⟩ h) (b1 : FVec Ideal S1x200 .f32) (hb1 : ∀ i, IsFin (b1 i))
    (w20 w21 : FVec Ideal S3200x200 .f32) (w22 : FVec Ideal S1400x200 .f32) (w2 : Fin 7800 → Fin 200 → EReal)
    (hw20 : ∀ k h, w20 (ix2 k h) = w2 ⟨k.val, by omega⟩ h) (hw21 : ∀ k h, w21 (ix2 k h) = w2 ⟨3200 + k.val, by omega⟩ h)
    (hw22 : ∀ k h, w22 (ix2 k h) = w2 ⟨6400 + k.val, by omega⟩ h) (b2 : FVec Ideal S1x200 .f32) (clw : FVec Ideal S600x1 .f32)
    (dw0 : FVec Ideal S390x400 .f32) (db0 : FVec Ideal S1x400 .f32) (dw1 : FVec Ideal S400x400 .f32) (db1 : FVec Ideal S1x400 .f32)
    (dlw : FVec Ideal S400x1 .f32) (cb : EReal) (n : Fin 64) :
    k1_pay1 (F := Ideal) (k1_pay3 l)
      (k1_pay22 (k1_pay15 ed) (k1_pay16 ed R T w0 b0)
        (k1_pay19 (k1_pay15 ed) (k1_pay17 ed R T w0 b0 U) (k1_pay18 ed R T w0 b0 U T0) w10 (constant S640x200 .f32 0x00000000#32) T1 w11 T2 w12 b1)
        (k1_pay20 (k1_pay15 ed) (k1_pay17 ed R T w0 b0 U) (k1_pay18 ed R T w0 b0 U T0) w10 (constant S640x200 .f32 0x00000000#32) T1 w11 T2 w12 b1 U)
        (k1_pay21 (k1_pay15 ed) (k1_pay17 ed R T w0 b0 U) (k1_pay18 ed R T w0 b0 U T0) w10 (constant S640x200 .f32 0x00000000#32) T1 w11 T2 w12 b1 U T0 w20)
        T1 w21 T2 w22 b2 clw)
      (k1_pay23 (k1_pay2 v) dw0 db0) k1_pay24 dw1 db1 dlw cb (ix2 n 0)
      = Ideal.logistic (l (ix2 n 0)
          + cinLogit (e n) (fun k h => w0 (ix2 k h)) (fun h => b0 (ix2 0 h)) w1 (fun h => b1 (ix2 0 h)) w2 (fun h => b2 (ix2 0 h)) (fun q => clw (ix2 q 0))
          + dense (flatE (e n)) (fun q i => dw0 (ix2 q i)) (fun i => db0 (ix2 0 i)) (fun i j => dw1 (ix2 i j)) (fun j => db1 (ix2 0 j)) (fun j => dlw (ix2 j 0))
          + cb) := by
  have hE : ∀ n d a, IsFin (eRow (e n) d a) := fun n d a => by
    unfold eRow
    split_ifs
    exacts [he _ _ _, IsFin.zero]
  have hfin : ∀ i, IsFin (ed i) := fin_of_ix2 ed fun r f => by
    have e1 : r = ⟨r.val / 64 * 64 + r.val % 64, by omega⟩ := Fin.ext (by show r.val = r.val / 64 * 64 + r.val % 64; omega)
    have e2 := hed ⟨r.val / 64, by omega⟩ ⟨r.val % 64, by omega⟩ f
    rw [e1, e2]
    exact hE _ _ _
  -- the first layer
  have c1 := pay16_at ed hfin R T hR hT w0 b0
  have f1 : ∀ i, IsFin (k1_pay16 (F := Ideal) ed R T w0 b0 i) := fin_of_ix2 _ fun r h => by
    rw [c1]
    exact cin0_fin (fun a => hfin _) (fun k h => hw0 _) (fun h => hb0 _) h
  have c1r := pay17_at ed R T w0 b0 f1 U hU
  -- the second layer
  have c2 := chunks ed hfin (k1_pay16 ed R T w0 b0) (k1_pay17 ed R T w0 b0 U) c1r T0 T1 T2 hT0 hT1 hT2 w10 w11 w12 w1 hw10 hw11 hw12 b1
  rw [← pay18_eq] at c2
  have f2 : ∀ i, IsFin (k1_pay19 (F := Ideal) (k1_pay15 ed) (k1_pay17 ed R T w0 b0 U) (k1_pay18 ed R T w0 b0 U T0) w10 (constant S640x200 .f32 0x00000000#32) T1 w11 T2 w12 b1 i) :=
    fin_of_ix2 _ fun r h => by
      rw [c2]
      exact cinS_fin (fun a => hfin _) (fun a => f1 _) (fun k h => hw1 _ _) (fun h => hb1 _) h
  have c2r := pay20_at _ _ _ _ _ _ _ _ _ _ f2 U hU
  -- the third layer and the logit
  have c3 := pay22_at ed hfin (k1_pay16 ed R T w0 b0) _ _ c2r T0 T1 T2 hT0 hT1 hT2 w20 w21 w22 w2 hw20 hw21 hw22 b2 clw n
  rw [← pay21_eq] at c3
  rw [pay1_at, pay3_eq, pay2_eq, c3]
  have g1 : ∀ d h, k1_pay16 (F := Ideal) ed R T w0 b0 (ix2 ⟨d.val * 64 + n.val, by omega⟩ h)
      = lay1 (e n) (fun k h => w0 (ix2 k h)) (fun h => b0 (ix2 0 h)) d h := fun d h => by
    rw [c1]
    unfold lay1
    exact congrArg (cin0 · _ _ h) (funext fun a => hed d n a)
  have g2 : ∀ d h, k1_pay19 (F := Ideal) (k1_pay15 ed) (k1_pay17 ed R T w0 b0 U) (k1_pay18 ed R T w0 b0 U T0) w10 (constant S640x200 .f32 0x00000000#32) T1 w11 T2 w12 b1
      (ix2 ⟨d.val * 64 + n.val, by omega⟩ h)
      = layS (e n) (lay1 (e n) (fun k h => w0 (ix2 k h)) (fun h => b0 (ix2 0 h))) w1 (fun h => b1 (ix2 0 h)) d h := fun d h => by
    rw [c2]
    unfold layS
    exact congrArg₂ (cinS · · _ _ h) (funext fun a => hed d n a) (funext fun a => g1 d a)
  have hvn : (fun q => v (ix2 n q)) = flatE (e n) := funext fun q => hv n q
  rw [hvn]
  unfold cinLogit poolR pool
  simp only [g1, g2, hed]
  rfl

end Cert.Xdeepfm
-- ==== Proof.CinValue.lean ====
/- What the second call leaves in the result's array: the network's value at every row, from the operands the call finds. -/
module

public import proofs.«01_k».proof.Proof.Blocks
public import proofs.«01_k».proof.Proof.Body
public import Idealize.ShloMosaic.Lib.Pipeline.ReadBack

@[expose] public section

set_option maxRecDepth 16384
set_option maxHeartbeats 2000000

noncomputable section

namespace Cert.KernelIdeal.Gen

open Idealize.ShloMosaic Idealize.ShloMosaic.TcCoe Cert.KernelIdeal Cert.Xdeepfm

variable (V : (c : Dev nD) → (b : Ref sig .tc) → Buf (Elt Ideal) ((c : Thread nD τ).loc b))

/-- What the second call needs of the arrays it finds: the embeddings of the rows and the tables of ones, and finite weights. -/
structure Found (c : Dev nD) (E : Fin 1024 → Fin 39 → Fin 10 → EReal) : Prop where
  fin : ∀ n f d, IsFin (E n f d)
  emb : ∀ (n : Fin 1024) (q : Fin 390), (V c main_call0_v47 : FVec Ideal S1024x391 .f32) (ix2 n ⟨q.val, by omega⟩) = flatE (E n) q
  perm : ∀ (q : Fin 390) (k : Fin 1280), (V c main_call0_v8 : FVec Ideal S390x1280 .f32) (ix2 q k)
    = if q.val % 10 = k.val / 128 ∧ q.val / 10 = k.val % 128 then (1 : EReal) else 0
  r0 : Hits (n := 128) (V c main_call0_v33 : FVec Ideal S256x1521 .bf16) (fun k => ⟨k.val / 39, by omega⟩) rfl
  t0 : Hits (n := 128) (V c main_call0_v34 : FVec Ideal S256x1521 .bf16) (fun k => ⟨k.val % 39, by omega⟩) rfl
  r1 : Hits (n := 128) (V c main_call0_v35 : FVec Ideal S256x7800 .bf16) (fun k => ⟨k.val / 200, by omega⟩) rfl
  t1 : Hits (V c main_call0_v36 : FVec Ideal S400x3200 .bf16) (fun k => (⟨k.val % 200, by omega⟩ : Fin 200)) rfl
  w0 : ∀ i, IsFin ((V c main_arg5 : FVec Ideal S1521x200 .f32) i)
  b0 : ∀ i, IsFin ((V c main_call0_v38 : FVec Ideal S1x200 .f32) i)
  w1 : ∀ i, IsFin ((V c main_arg7 : FVec Ideal S7800x200 .f32) i)
  b1 : ∀ i, IsFin ((V c main_call0_v39 : FVec Ideal S1x200 .f32) i)

/-- The value of row `n`, from the call's operands and the row's embeddings. -/
def netAt (L : FVec Ideal S1024x391 .f32) (w0 : FVec Ideal S1521x200 .f32) (b0 : FVec Ideal S1x200 .f32) (w1 : FVec Ideal S7800x200 .f32) (b1 : FVec Ideal S1x200 .f32)
    (w2 : FVec Ideal S7800x200 .f32) (b2 : FVec Ideal S1x200 .f32) (clw : FVec Ideal S600x1 .f32) (dw0 : FVec Ideal S390x400 .f32) (db0 : FVec Ideal S1x400 .f32)
    (dw1 : FVec Ideal S400x400 .f32) (db1 : FVec Ideal S1x400 .f32) (dlw : FVec Ideal S400x1 .f32) (cb : FVec Ideal S1x1 .f32)
    (e : Fin 39 → Fin 10 → EReal) (n : Fin 1024) : EReal :=
  Ideal.logistic (L (ix2 n 390)
    + cinLogit e (fun k h => w0 (ix2 k h)) (fun h => b0 (ix2 0 h)) (fun k h => w1 (ix2 k h)) (fun h => b1 (ix2 0 h))
        (fun k h => w2 (ix2 k h)) (fun h => b2 (ix2 0 h)) (fun q => clw (ix2 q 0))
    + dense (flatE e) (fun q i => dw0 (ix2 q i)) (fun i => db0 (ix2 0 i)) (fun i j => dw1 (ix2 i j)) (fun j => db1 (ix2 0 j)) (fun j => dlw (ix2 j 0))
    + cb (ix2 0 0))

/-- The value of row `n`, from the arrays the call finds and the row's embeddings. -/
def netOf (c : Dev nD) (E : Fin 1024 → Fin 39 → Fin 10 → EReal) (n : Fin 1024) : EReal :=
  netAt (V c main_call0_v47) (V c main_arg5) (V c main_call0_v38) (V c main_arg7) (V c main_call0_v39) (V c main_arg9) (V c main_call0_v40) (V c main_arg11)
    (V c main_arg13) (V c main_call0_v41) (V c main_arg15) (V c main_call0_v42) (V c main_arg17) (V c main_call0_v46) (E n) n

/-- Row `n` of the block that point `t` stores is the value of row `64 * t + n`. -/
theorem outsAt1_at (c : Dev nD) (E : Fin 1024 → Fin 39 → Fin 10 → EReal) (H : Found V c E) (t : Fin cfg1.N) (n : Fin 64) :
    outsAt1 V c t (ix2 n 0) = netOf V c E ⟨t.val * 64 + n.val, by have : t.val < 16 := t.isLt; omega⟩ := by
  have ht : t.val < 16 := t.isLt
  unfold outsAt1
  frame_open
  simp (disch := decide) only [↓ View.readCov_skip, ↓ View.readCov_cons_toLoadRect, ↓ View.readCov_fill]
  frame_out
  generalize hv : View.ld (Val := Elt Ideal) (iblk1 V c 0 t) (Rect.unit ![0, 0] ![64, 390] inb_S64x391_S64x390_0_0) = v
  have hv' : ∀ (n : Fin 64) (q : Fin 390), v (ix2 n q) = flatE (E ⟨t.val * 64 + n.val, by omega⟩) q := by
    intro n q
    have e1 := blk1_0 V c t n ⟨q.val, by omega⟩
    rw [H.emb] at e1
    rw [← e1, ← hv]
    pointwise
  clear hv
  generalize hed : View.readCov (Val := Elt Ideal) (View.whole cc1_scratch1) _ _ = ed
  have hx : ∀ d : Fin 10, ∀ n : Fin 64, ∀ f : Fin 128, ed (ix2 ⟨d.val * 64 + n.val, by omega⟩ f)
      = k1_pay4 (F := Ideal) v (iblk1 V c 13 t) (iblk1 V c 13 t) (ix2 n ⟨d.val * 128 + f.val, by omega⟩) := by
    intro d n f
    rw [← hed, View.readCov_eq_canon']
    generalize k1_pay4 (F := Ideal) _ _ _ = X
    clear hed hv' v
    canon_tiles x h
    all_goals
      open_payloads
      pointwise
      simp at h0 h1
      blk_ext
  clear hed
  generalize hT0 : View.ld (Val := Elt Ideal) (iblk1 V c 16 t) (Rect.unit ![0, 0] ![256, 3200] inb_S256x7800_S256x3200_0_0) = T0
  generalize hT1 : View.ld (Val := Elt Ideal) (iblk1 V c 16 t) (Rect.unit ![0, 3200] ![256, 3200] inb_S256x7800_S256x3200_0_3200) = T1
  generalize hT2 : View.ld (Val := Elt Ideal) (iblk1 V c 16 t) (Rect.unit ![0, 6400] ![256, 1400] inb_S256x7800_S256x1400_0_6400) = T2
  generalize hw10 : View.ld (Val := Elt Ideal) (iblk1 V c 3 t) (Rect.unit ![0, 0] ![3200, 200] inb_S7800x200_S3200x200_0_0) = w10
  generalize hw11 : View.ld (Val := Elt Ideal) (iblk1 V c 3 t) (Rect.unit ![3200, 0] ![3200, 200] inb_S7800x200_S3200x200_3200_0) = w11
  generalize hw12 : View.ld (Val := Elt Ideal) (iblk1 V c 3 t) (Rect.unit ![6400, 0] ![1400, 200] inb_S7800x200_S1400x200_6400_0) = w12
  generalize hw20 : View.ld (Val := Elt Ideal) (iblk1 V c 5 t) (Rect.unit ![0, 0] ![3200, 200] inb_S7800x200_S3200x200_0_0) = w20
  generalize hw21 : View.ld (Val := Elt Ideal) (iblk1 V c 5 t) (Rect.unit ![3200, 0] ![3200, 200] inb_S7800x200_S3200x200_3200_0) = w21
  generalize hw22 : View.ld (Val := Elt Ideal) (iblk1 V c 5 t) (Rect.unit ![6400, 0] ![1400, 200] inb_S7800x200_S1400x200_6400_0) = w22
  generalize hl : View.ld (Val := Elt Ideal) (iblk1 V c 0 t) (Rect.unit ![0, 390] ![64, 1] inb_S64x391_S64x1_0_390) = l
  have hl' : ∀ (n : Fin 64), l (ix2 n 0) = (V c main_call0_v47 : FVec Ideal S1024x391 .f32) (ix2 ⟨t.val * 64 + n.val, by omega⟩ 390) := by
    intro n
    rw [← blk1_0 V c t n 390, ← hl]
    pointwise
  have b1 := blk1_1 V c t
  have b2 := blk1_2 V c t
  have b3 := blk1_3 V c t
  have b4 := blk1_4 V c t
  have b5 := blk1_5 V c t
  have b6 := blk1_6 V c t
  have b7 := blk1_7 V c t
  have b8 := blk1_8 V c t
  have b9 := blk1_9 V c t
  have b10 := blk1_10 V c t
  have b11 := blk1_11 V c t
  have b12 := blk1_12 V c t
  have b13 := blk1_13 V c t
  have b14 := blk1_14 V c t
  have b15 := blk1_15 V c t
  have b16 := blk1_16 V c t
  have b17 := blk1_17 V c t
  have b18 := blk1_18 V c t
  have gT : ∀ (a : Fin 128) (k : Fin 7800), (iblk1 V c 16 t : FVec Ideal S256x7800 .bf16) (ix2 ⟨a.val, by omega⟩ k) = if a = ⟨k.val / 200, by omega⟩ then (1 : EReal) else 0 := by
    rw [b16]; exact H.r1
  have gT0 : Hits (n := 128) (T0 : FVec Ideal S256x3200 .bf16) (fun k => ⟨k.val / 200, by omega⟩) rfl := fun a k => by
    rw [← gT a ⟨k.val, by omega⟩, ← hT0]
    pointwise
  have gT1 : Hits (n := 128) (T1 : FVec Ideal S256x3200 .bf16) (fun k => ⟨(3200 + k.val) / 200, by omega⟩) rfl := fun a k => by
    rw [← gT a ⟨3200 + k.val, by omega⟩, ← hT1]
    pointwise
  have gT2 : Hits (n := 128) (T2 : FVec Ideal S256x1400 .bf16) (fun k => ⟨(6400 + k.val) / 200, by omega⟩) rfl := fun a k => by
    rw [← gT a ⟨6400 + k.val, by omega⟩, ← hT2]
    pointwise
  have g10 : ∀ (k : Fin 3200) (h : Fin 200), w10 (ix2 k h) = (V c main_arg7 : FVec Ideal S7800x200 .f32) (ix2 ⟨k.val, by omega⟩ h) := fun k h => by
    rw [← b3, ← hw10]; pointwise
  have g11 : ∀ (k : Fin 3200) (h : Fin 200), w11 (ix2 k h) = (V c main_arg7 : FVec Ideal S7800x200 .f32) (ix2 ⟨3200 + k.val, by omega⟩ h) := fun k h => by
    rw [← b3, ← hw11]; pointwise
  have g12 : ∀ (k : Fin 1400) (h : Fin 200), w12 (ix2 k h) = (V c main_arg7 : FVec Ideal S7800x200 .f32) (ix2 ⟨6400 + k.val, by omega⟩ h) := fun k h => by
    rw [← b3, ← hw12]; pointwise
  have g20 : ∀ (k : Fin 3200) (h : Fin 200), w20 (ix2 k h) = (V c main_arg9 : FVec Ideal S7800x200 .f32) (ix2 ⟨k.val, by omega⟩ h) := fun k h => by
    rw [← b5, ← hw20]; pointwise
  have g21 : ∀ (k : Fin 3200) (h : Fin 200), w21 (ix2 k h) = (V c main_arg9 : FVec Ideal S7800x200 .f32) (ix2 ⟨3200 + k.val, by omega⟩ h) := fun k h => by
    rw [← b5, ← hw21]; pointwise
  have g22 : ∀ (k : Fin 1400) (h : Fin 200), w22 (ix2 k h) = (V c main_arg9 : FVec Ideal S7800x200 .f32) (ix2 ⟨6400 + k.val, by omega⟩ h) := fun k h => by
    rw [← b5, ← hw22]; pointwise
  have hed : ∀ (d : Fin 10) (n : Fin 64) (f : Fin 128), ed (ix2 ⟨d.val * 64 + n.val, by omega⟩ f) = eRow (E ⟨t.val * 64 + n.val, by omega⟩) d f := by
    intro d n f
    have hvf : ∀ i, IsFin (v i) := fin_of_ix2 v fun n q => by rw [hv']; exact H.fin _ _ _
    have hp : ∀ (q : Fin 390) (k : Fin 1280), (iblk1 V c 13 t : FVec Ideal S390x1280 .f32) (ix2 q k)
        = if q.val % 10 = k.val / 128 ∧ q.val / 10 = k.val % 128 then (1 : EReal) else 0 := by rw [b13]; exact H.perm
    rw [hx, pay4_at v hvf _ hp]
    unfold eRow
    split_ifs with hf
    · rw [hv']
      unfold flatE
      exact congrArg₂ (E _) (Fin.ext (by show (f.val * 10 + d.val) / 10 = f.val; omega)) (Fin.ext (by show (f.val * 10 + d.val) % 10 = d.val; omega))
    · rfl
  have hcb : View.ld (Val := Elt Ideal) (iblk1 V c 18 t) (Rect.unit ![0, 0] ![1, 1] inb_S1x1_S1x1_0_0) (Shape.Idx.first (show 0 < S1x1.numel by decide)) = (V c main_call0_v46 : FVec Ideal S1x1 .f32) (ix2 0 0) := by
    rw [← b18]
    pointwise
  refine (body_at (fun n => E ⟨t.val * 64 + n.val, by omega⟩) (fun n f d => H.fin _ _ _) ed hed v hv' l
    (iblk1 V c 14 t) (iblk1 V c 15 t) (by rw [b14]; exact H.r0) (by rw [b15]; exact H.t0)
    (iblk1 V c 1 t) (by rw [b1]; exact H.w0) (iblk1 V c 2 t) (by rw [b2]; exact H.b0) (iblk1 V c 17 t) (by rw [b17]; exact H.t1)
    T0 T1 T2 gT0 gT1 gT2 w10 w11 w12 (fun k h => (V c main_arg7 : FVec Ideal S7800x200 .f32) (ix2 k h)) (fun k h => H.w1 _) g10 g11 g12
    (iblk1 V c 4 t) (by rw [b4]; exact H.b1)
    w20 w21 w22 (fun k h => (V c main_arg9 : FVec Ideal S7800x200 .f32) (ix2 k h)) g20 g21 g22 (iblk1 V c 6 t) (iblk1 V c 7 t)
    (iblk1 V c 8 t) (iblk1 V c 9 t) (iblk1 V c 10 t) (iblk1 V c 11 t) (iblk1 V c 12 t) _ n).trans ?_
  rw [hl', hcb, b1, b2, b4, b6, b7, b8, b9, b10, b11, b12]
  rfl

/-- The result's array after the second call. -/
theorem arr1 (c : Dev nD) (E : Fin 1024 → Fin 39 → Fin 10 → EReal) (H : Found V c E) :
    (dat1 V c).arrAt 19 cfg1.N = (fun i => netOf V c E (i 0) : FVec Ideal S1024x1 .f32) := by
  refine (dat1 V c).arrAt_eq_of_covers 19 _ (by decide +kernel) fun t hf y => ?_
  blk_simp
  rw [after1_19]
  have e : y = (ix2 (y 0 : Fin 64) (0 : Fin 1) : S64x1.Idx) := by
    rw [eq_ix2 (n0 := 64) (n1 := 1) y]
    exact congrArg (ix2 _) (Subsingleton.elim _ _)
  rw [e]
  refine (outsAt1_at V c E H t (y 0)).trans (congrArg (netOf V c E) (Fin.ext ?_))
  blk_simp [idx1 t]

end Cert.KernelIdeal.Gen
-- ==== Proof.EmbedValue.lean ====
/- What the first call leaves in the embedding table's array: every row's embeddings and its linear logit. -/
module

public import proofs.«01_k».proof.Proof.IdealEmbed
public import proofs.«01_k».proof.Proof.Net
public import Idealize.ShloMosaic.Lib.Pipeline.ReadBack
public import Idealize.ShloMosaic.Lib.Pipeline.ValueKit
public import Idealize.ShloMosaic.Lib.Pointwise

@[expose] public section

set_option maxRecDepth 16384
set_option maxHeartbeats 2000000

noncomputable section

namespace Cert.KernelIdeal.Gen

open Idealize.ShloMosaic Idealize.ShloMosaic.TcCoe Cert.KernelIdeal Cert.Xdeepfm

variable (V : (c : Dev nD) → (b : Ref sig .tc) → Buf (Elt Ideal) ((c : Thread nD τ).loc b))

/-- One row of the embedding table: ten columns for each of the 13 numeric fields, ten for each of the 26 categorical fields, and the
    linear logit in the last column. -/
def tabRow (x : Fin 26013 → EReal) (wl : FVec Ideal S26013x1 .f32) (wc : FVec Ideal S26x1000x10 .f32) (rp : FVec Ideal S13x130 .f32)
    (wr : FVec Ideal S1x130 .f32) (q : Fin 391) : EReal :=
  if h : q.val < 130 then (∑ b : Fin 13, x ⟨b.val, by omega⟩ * rp (ix2 b ⟨q.val, h⟩)) * wr (ix2 0 ⟨q.val, h⟩)
  else if h' : q.val < 390 then
    ∑ k : Fin 1000, x ⟨13 + ((q.val - 130) / 10 * 1000 + k.val), by omega⟩ * wc (ix3 ⟨(q.val - 130) / 10, by omega⟩ k ⟨(q.val - 130) % 10, by omega⟩)
  else ∑ j : Fin 26013, x j * wl (ix2 j 0)

/-- The block that a point stores holds the table's rows of the block of `x` that it loads. -/
theorem outsAt0_at (c : Dev nD) (t : Fin cfg0.N) (y : S128x391.Idx) :
    outsAt0 V c t y = tabRow (fun j => (iblk0 V c 0 t : FVec Ideal S128x26013 .f32) (ix2 (y 0) j)) (iblk0 V c 1 t) (iblk0 V c 2 t) (iblk0 V c 3 t) (iblk0 V c 4 t) (y 1) := by
  unfold outsAt0
  frame_open
  frame_out
  generalize iblk0 V c 0 t = X
  generalize iblk0 V c 1 t = WL
  generalize iblk0 V c 2 t = WC
  generalize iblk0 V c 3 t = RP
  generalize iblk0 V c 4 t = WR
  unfold tabRow
  canon_tiles x h using (View.cover_of_tiledBy _ ![128, 1] (by sl_kernel_rfl) y)
  case piece0 =>
    rw [dif_neg (by omega), dif_neg (by omega)]
    open_payloads
    pointwise
    exact Finset.sum_congr rfl fun k _ => congrArg₂ (· * ·) (by blk_ext) (by blk_ext)
  case piece27 =>
    rw [dif_pos (by omega)]
    open_payloads
    pointwise
    exact congrArg₂ (· * ·) (Finset.sum_congr rfl fun k _ => congrArg₂ (· * ·) (by blk_ext) (by blk_ext)) (by blk_ext)
  all_goals
    rw [dif_neg (by omega), dif_pos (by omega)]
    open_payloads
    pointwise
    exact Finset.sum_congr rfl fun k _ => congrArg₂ (· * ·) (by blk_ext) (by blk_ext)

/-- The block indices of the windows: the first and the last move with the grid point, the others stay. -/
theorem idx0 : ∀ t : Fin cfg0.N, win0_0.index t = ![t.val, 0] ∧ win0_5.index t = ![t.val, 0] ∧ win0_1.index t = ![0, 0] ∧ win0_2.index t = ![0, 0, 0] ∧ win0_3.index t = ![0, 0] ∧ win0_4.index t = ![0, 0] :=
  (by decide +kernel : ∀ t : Fin grid0.N, _)

/-- Row `n` of the block at point `t` is row `128 * t + n` of `x`. -/
theorem blk0_0 (c : Dev nD) (t : Fin cfg0.N) (n : Fin 128) (j : Fin 26013) :
    (iblk0 V c 0 t : FVec Ideal S128x26013 .f32) (ix2 n j)
      = (V c main_arg0 : FVec Ideal S1024x26013 .f32) (ix2 ⟨t.val * 128 + n.val, by have : t.val < 8 := t.isLt; omega⟩ j) := by
  unfold iblk0
  blk_ext [idx0 t]

/-- The block of window 1 is its whole array. -/
theorem blk0_1 (c : Dev nD) (t : Fin cfg0.N) : (iblk0 V c 1 t : FVec Ideal S26013x1 .f32) = V c main_arg1 := by
  funext i
  unfold iblk0
  blk_ext [idx0 t]

/-- The block of window 2 is its whole array. -/
theorem blk0_2 (c : Dev nD) (t : Fin cfg0.N) : (iblk0 V c 2 t : FVec Ideal S26x1000x10 .f32) = V c main_arg4 := by
  funext i
  unfold iblk0
  blk_ext [idx0 t]

/-- The block of window 3 is its whole array. -/
theorem blk0_3 (c : Dev nD) (t : Fin cfg0.N) : (iblk0 V c 3 t : FVec Ideal S13x130 .f32) = V c main_call0_cst := by
  funext i
  unfold iblk0
  blk_ext [idx0 t]

/-- The block of window 4 is its whole array. -/
theorem blk0_4 (c : Dev nD) (t : Fin cfg0.N) : (iblk0 V c 4 t : FVec Ideal S1x130 .f32) = V c main_call0_v37 := by
  funext i
  unfold iblk0
  blk_ext [idx0 t]

/-- The embedding table's array, from the arrays the first call reads. -/
def tabOf (X : FVec Ideal S1024x26013 .f32) (wl : FVec Ideal S26013x1 .f32) (wc : FVec Ideal S26x1000x10 .f32) (rp : FVec Ideal S13x130 .f32)
    (wr : FVec Ideal S1x130 .f32) (n : Fin 1024) (q : Fin 391) : EReal := tabRow (fun j => X (ix2 n j)) wl wc rp wr q

/-- The embedding table's array after the first call. -/
theorem arr0 (c : Dev nD) :
    (dat0 V c).arrAt 5 cfg0.N = (fun i => tabOf (V c main_arg0) (V c main_arg1) (V c main_arg4) (V c main_call0_cst) (V c main_call0_v37) (i 0) (i 1) : FVec Ideal S1024x391 .f32) := by
  refine (dat0 V c).arrAt_eq_of_covers 5 _ (by decide +kernel) fun t hf y => ?_
  blk_simp
  rw [after0_5]
  refine (outsAt0_at V c t y).trans ?_
  rw [blk0_1, blk0_2, blk0_3, blk0_4, show (fun j => (iblk0 V c 0 t : FVec Ideal S128x26013 .f32) (ix2 (y 0) j)) = _ from funext fun j => blk0_0 V c t (y 0) j]
  unfold tabOf
  refine congr_arg₂ (fun (n : Fin 1024) (q : Fin 391) => tabRow (fun j => (V c main_arg0 : FVec Ideal S1024x26013 .f32) (ix2 n j)) (V c main_arg1) (V c main_arg4) (V c main_call0_cst) (V c main_call0_v37) q) (Fin.ext ?_) (Fin.ext ?_)
  · blk_simp [idx0 t]
  · blk_simp [idx0 t]

end Cert.KernelIdeal.Gen
-- ==== Proof.Tie.lean ====
/- The result of the kernel's program, row by row, as the network of the row's embeddings and the arguments. -/
module

public import proofs.«01_k».proof.Proof.IdealLaunch
public import proofs.«01_k».proof.Proof.Tables
public import proofs.«01_k».proof.Proof.CinValue
public import proofs.«01_k».proof.Proof.EmbedValue

@[expose] public section

set_option maxRecDepth 16384

noncomputable section

namespace Cert.Xdeepfm

open Idealize.ShloMosaic Idealize.ShloMosaic.TcCoe Cert.KernelIdeal Cert.KernelIdeal.Gen

/-- The embedding table's first 390 columns are the embeddings of the row. -/
theorem tab_emb (X : FVec Ideal S1024x26013 .f32) (wl : FVec Ideal S26013x1 .f32) (wc : FVec Ideal S26x1000x10 .f32) (rp : FVec Ideal S13x130 .f32)
    (wr : FVec Ideal S1x130 .f32) (wn : FVec Ideal S13x10 .f32)
    (hrp : ∀ (b : Fin 13) (q : Fin 130), rp (ix2 b q) = if b = ⟨q.val / 10, by omega⟩ then (1 : EReal) else 0)
    (hwr : ∀ q : Fin 130, wr (ix2 0 q) = wn (ix2 ⟨q.val / 10, by omega⟩ ⟨q.val % 10, by omega⟩)) (n : Fin 1024) (q : Fin 390) :
    tabOf X wl wc rp wr n ⟨q.val, by omega⟩
      = flatE (emb (fun j => X (ix2 n j)) (fun f d => wn (ix2 f d)) (fun f k d => wc (ix3 f k d))) q := by
  unfold tabOf tabRow flatE emb
  by_cases h : q.val < 130
  · rw [dif_pos h, dif_pos (show q.val / 10 < 13 by omega), sum_hit _ _ _ (fun b => hrp b ⟨q.val, h⟩), hwr]
  · rw [dif_neg h, dif_pos q.isLt, dif_neg (show ¬ q.val / 10 < 13 by omega)]
    refine Finset.sum_congr rfl fun k _ => congrArg₂ (· * ·) (congrArg (fun j => X (ix2 n j)) (Fin.ext ?_)) ?_
    · show 13 + ((q.val - 130) / 10 * 1000 + k.val) = 13 + ((q.val / 10 - 13) * 1000 + k.val)
      omega
    · exact congrArg₂ (fun f d => wc (ix3 f k d)) (Fin.ext (by show (q.val - 130) / 10 = q.val / 10 - 13; omega))
        (Fin.ext (by show (q.val - 130) % 10 = q.val % 10; omega))

/-- The embedding table's last column is the linear logit of the row. -/
theorem tab_lin (X : FVec Ideal S1024x26013 .f32) (wl : FVec Ideal S26013x1 .f32) (wc : FVec Ideal S26x1000x10 .f32) (rp : FVec Ideal S13x130 .f32)
    (wr : FVec Ideal S1x130 .f32) (n : Fin 1024) : tabOf X wl wc rp wr n 390 = ∑ j : Fin 26013, X (ix2 n j) * wl (ix2 j 0) := by
  unfold tabOf tabRow
  rw [dif_neg (by decide), dif_neg (by decide)]

/-- The embeddings of finite entries and weights are finite. -/
theorem emb_fin (x : Fin 26013 → EReal) (wn : Fin 13 → Fin 10 → EReal) (wc : Fin 26 → Fin 1000 → Fin 10 → EReal) (hx : ∀ j, IsFin (x j))
    (hn : ∀ f d, IsFin (wn f d)) (hc : ∀ f k d, IsFin (wc f k d)) (f : Fin 39) (d : Fin 10) : IsFin (emb x wn wc f d) := by
  unfold emb
  split_ifs
  · exact (hx _).mul (hn _ _)
  · exact IsFin.sum _ _ fun k => (hx _).mul (hc _ _ _)

/-- The value of a row, with the biases and the linear logit read from elsewhere. -/
theorem netAt_eq (L : FVec Ideal S1024x391 .f32) (w0 : FVec Ideal S1521x200 .f32) (b0 : FVec Ideal S1x200 .f32) (w1 : FVec Ideal S7800x200 .f32) (b1 : FVec Ideal S1x200 .f32)
    (w2 : FVec Ideal S7800x200 .f32) (b2 : FVec Ideal S1x200 .f32) (clw : FVec Ideal S600x1 .f32) (dw0 : FVec Ideal S390x400 .f32) (db0 : FVec Ideal S1x400 .f32)
    (dw1 : FVec Ideal S400x400 .f32) (db1 : FVec Ideal S1x400 .f32) (dlw : FVec Ideal S400x1 .f32) (cb : FVec Ideal S1x1 .f32)
    (e : Fin 39 → Fin 10 → EReal) (n : Fin 1024) (lin : EReal) (hL : L (ix2 n 390) = lin)
    (c0 c1 c2 : FVec Ideal S200 .f32) (h0 : ∀ h, b0 (ix2 0 h) = c0 (ix1 h)) (h1 : ∀ h, b1 (ix2 0 h) = c1 (ix1 h)) (h2 : ∀ h, b2 (ix2 0 h) = c2 (ix1 h))
    (d0 d1 : FVec Ideal S400 .f32) (g0 : ∀ h, db0 (ix2 0 h) = d0 (ix1 h)) (g1 : ∀ h, db1 (ix2 0 h) = d1 (ix1 h)) (k : EReal) (hk : cb (ix2 0 0) = k) :
    netAt L w0 b0 w1 b1 w2 b2 clw dw0 db0 dw1 db1 dlw cb e n
      = Ideal.logistic (lin + cinLogit e (fun k h => w0 (ix2 k h)) (fun h => c0 (ix1 h)) (fun k h => w1 (ix2 k h)) (fun h => c1 (ix1 h))
            (fun k h => w2 (ix2 k h)) (fun h => c2 (ix1 h)) (fun q => clw (ix2 q 0))
          + dense (flatE e) (fun q i => dw0 (ix2 q i)) (fun i => d0 (ix1 i)) (fun i j => dw1 (ix2 i j)) (fun j => d1 (ix1 j)) (fun j => dlw (ix2 j 0)) + k) := by
  unfold netAt
  rw [hL, hk, funext h0, funext h1, funext h2, funext g0, funext g1]

variable (m : (ℓ : Loc nD τ sig) → Buf (Elt Ideal) ℓ) (ρ : Dev nD → PrngReg) (c : Dev nD)

/-- The embeddings of row `n` of the batch that the program is given. -/
def embOf (n : Fin 1024) : Fin 39 → Fin 10 → EReal :=
  emb (fun j => (m ((c : Thread nD τ).loc main_arg0) : FVec Ideal S1024x26013 .f32) (ix2 n j))
    (fun f d => (m ((c : Thread nD τ).loc main_arg3) : FVec Ideal S13x10 .f32) (ix2 f d))
    (fun f k d => (m ((c : Thread nD τ).loc main_arg4) : FVec Ideal S26x1000x10 .f32) (ix3 f k d))

/-- The embedding table that the second call finds. -/
theorem v47_eq : (V2 m ρ c main_call0_v47 : FVec Ideal S1024x391 .f32)
    = fun i => tabOf (m ((c : Thread nD τ).loc main_arg0)) (m ((c : Thread nD τ).loc main_arg1)) (m ((c : Thread nD τ).loc main_arg4))
        (V1 m ρ c main_call0_cst) (V1 m ρ c main_call0_v37) (i 0) (i 1) := by
  refine ((W2_arr m ρ c 5).trans (arr0 (V1 m ρ) c)).trans ?_
  rw [show V1 m ρ c main_arg0 = _ from W1_args m ρ c main_arg0 (by decide), show V1 m ρ c main_arg1 = _ from W1_args m ρ c main_arg1 (by decide),
    show V1 m ρ c main_arg4 = _ from W1_args m ρ c main_arg4 (by decide)]
  rfl

/-- What the second call finds, from finite arguments. -/
theorem found (hx : ∀ i, IsFin ((m ((c : Thread nD τ).loc main_arg0) : FVec Ideal S1024x26013 .f32) i))
    (hn : ∀ i, IsFin ((m ((c : Thread nD τ).loc main_arg3) : FVec Ideal S13x10 .f32) i))
    (hc : ∀ i, IsFin ((m ((c : Thread nD τ).loc main_arg4) : FVec Ideal S26x1000x10 .f32) i))
    (hw0 : ∀ i, IsFin ((m ((c : Thread nD τ).loc main_arg5) : FVec Ideal S1521x200 .f32) i))
    (hb0 : ∀ i, IsFin ((m ((c : Thread nD τ).loc main_arg6) : FVec Ideal S200 .f32) i))
    (hw1 : ∀ i, IsFin ((m ((c : Thread nD τ).loc main_arg7) : FVec Ideal S7800x200 .f32) i))
    (hb1 : ∀ i, IsFin ((m ((c : Thread nD τ).loc main_arg8) : FVec Ideal S200 .f32) i)) : Found (V2 m ρ) c (embOf m c) where
  fin n f d := emb_fin _ _ _ (fun j => hx _) (fun f d => hn _) (fun f k d => hc _) f d
  emb n q := by
    rw [v47_eq]
    exact tab_emb _ _ _ _ _ (m ((c : Thread nD τ).loc main_arg3)) (repn_at (W0 m ρ c)) (wn_at (W0 m ρ c)) n q
  perm q k := by
    rw [show V2 m ρ c main_call0_v8 = _ from W2_of m ρ c main_call0_v8 (by decide)]
    exact perm_at (W0 m ρ c) q k
  r0 := by
    rw [show V2 m ρ c main_call0_v33 = _ from W2_of m ρ c main_call0_v33 (by decide)]
    exact r0_at (W0 m ρ c)
  t0 := by
    rw [show V2 m ρ c main_call0_v34 = _ from W2_of m ρ c main_call0_v34 (by decide)]
    exact t0_at (W0 m ρ c)
  r1 := by
    rw [show V2 m ρ c main_call0_v35 = _ from W2_of m ρ c main_call0_v35 (by decide)]
    exact r1_at (W0 m ρ c)
  t1 := by
    rw [show V2 m ρ c main_call0_v36 = _ from W2_of m ρ c main_call0_v36 (by decide)]
    exact t1_at (W0 m ρ c)
  w0 i := by
    rw [show V2 m ρ c main_arg5 = _ from W2_args m ρ c main_arg5 (by decide)]
    exact hw0 i
  b0 i := by
    rw [show V2 m ρ c main_call0_v38 = _ from W2_of m ρ c main_call0_v38 (by decide)]
    refine fin_of_ix2 (a := 1) (b := 200) _ (fun a h => ?_) i
    rw [Subsingleton.elim a 0]
    exact (congrArg IsFin (b38_at (W0 m ρ c) h)).mpr (hb0 _)
  w1 i := by
    rw [show V2 m ρ c main_arg7 = _ from W2_args m ρ c main_arg7 (by decide)]
    exact hw1 i
  b1 i := by
    rw [show V2 m ρ c main_call0_v39 = _ from W2_of m ρ c main_call0_v39 (by decide)]
    refine fin_of_ix2 (a := 1) (b := 200) _ (fun a h => ?_) i
    rw [Subsingleton.elim a 0]
    exact (congrArg IsFin (b39_at (W0 m ρ c) h)).mpr (hb1 _)

/-- The value of a row, from the arguments and the row's embeddings. -/
def rowOut (x : FVec Ideal S1024x26013 .f32) (wl : FVec Ideal S26013x1 .f32) (bl : FVec Ideal S1 .f32)
    (w0 : FVec Ideal S1521x200 .f32) (b0 : FVec Ideal S200 .f32) (w1 : FVec Ideal S7800x200 .f32) (b1 : FVec Ideal S200 .f32)
    (w2 : FVec Ideal S7800x200 .f32) (b2 : FVec Ideal S200 .f32) (clw : FVec Ideal S600x1 .f32) (clb : FVec Ideal S1 .f32)
    (dw0 : FVec Ideal S390x400 .f32) (db0 : FVec Ideal S400 .f32) (dw1 : FVec Ideal S400x400 .f32) (db1 : FVec Ideal S400 .f32)
    (dlw : FVec Ideal S400x1 .f32) (dlb : FVec Ideal S1 .f32) (pb : FVec Ideal S1 .f32) (e : Fin 39 → Fin 10 → EReal) (n : Fin 1024) : EReal :=
  Ideal.logistic ((∑ j : Fin 26013, x (ix2 n j) * wl (ix2 j 0))
    + cinLogit e (fun k h => w0 (ix2 k h)) (fun h => b0 (ix1 h)) (fun k h => w1 (ix2 k h)) (fun h => b1 (ix1 h))
        (fun k h => w2 (ix2 k h)) (fun h => b2 (ix1 h)) (fun q => clw (ix2 q 0))
    + dense (flatE e) (fun q i => dw0 (ix2 q i)) (fun i => db0 (ix1 i)) (fun i j => dw1 (ix2 i j)) (fun j => db1 (ix1 j)) (fun j => dlw (ix2 j 0))
    + (((bl (ix1 0) + clb (ix1 0)) + dlb (ix1 0)) + pb (ix1 0)))

/-- The value of row `n` from the arguments. -/
theorem net_eq (n : Fin 1024) : netOf (V2 m ρ) c (embOf m c) n
    = rowOut (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12))
        (m ((c : Thread nD τ).loc main_arg13)) (m ((c : Thread nD τ).loc main_arg14)) (m ((c : Thread nD τ).loc main_arg15)) (m ((c : Thread nD τ).loc main_arg16))
        (m ((c : Thread nD τ).loc main_arg17)) (m ((c : Thread nD τ).loc main_arg18)) (m ((c : Thread nD τ).loc main_arg19)) (embOf m c n) n := by
  unfold rowOut
  unfold netOf
  have hL := (congrFun (v47_eq m ρ c) (ix2 n 390)).trans (tab_lin (m ((c : Thread nD τ).loc main_arg0)) (m ((c : Thread nD τ).loc main_arg1))
    (m ((c : Thread nD τ).loc main_arg4)) (V1 m ρ c main_call0_cst) (V1 m ρ c main_call0_v37) n)
  rw [show V2 m ρ c main_arg5 = _ from W2_args m ρ c main_arg5 (by decide), show V2 m ρ c main_arg7 = _ from W2_args m ρ c main_arg7 (by decide),
    show V2 m ρ c main_arg9 = _ from W2_args m ρ c main_arg9 (by decide), show V2 m ρ c main_arg11 = _ from W2_args m ρ c main_arg11 (by decide),
    show V2 m ρ c main_arg13 = _ from W2_args m ρ c main_arg13 (by decide), show V2 m ρ c main_arg15 = _ from W2_args m ρ c main_arg15 (by decide),
    show V2 m ρ c main_arg17 = _ from W2_args m ρ c main_arg17 (by decide),
    show V2 m ρ c main_call0_v38 = _ from W2_of m ρ c main_call0_v38 (by decide), show V2 m ρ c main_call0_v39 = _ from W2_of m ρ c main_call0_v39 (by decide),
    show V2 m ρ c main_call0_v40 = _ from W2_of m ρ c main_call0_v40 (by decide), show V2 m ρ c main_call0_v41 = _ from W2_of m ρ c main_call0_v41 (by decide),
    show V2 m ρ c main_call0_v42 = _ from W2_of m ρ c main_call0_v42 (by decide), show V2 m ρ c main_call0_v46 = _ from W2_of m ρ c main_call0_v46 (by decide)]
  exact netAt_eq _ _ _ _ _ _ _ _ _ _ _ _ _ _ _ n _ hL (m ((c : Thread nD τ).loc main_arg6)) (m ((c : Thread nD τ).loc main_arg8))
    (m ((c : Thread nD τ).loc main_arg10)) (b38_at (W0 m ρ c)) (b39_at (W0 m ρ c)) (b40_at (W0 m ρ c)) (m ((c : Thread nD τ).loc main_arg14))
    (m ((c : Thread nD τ).loc main_arg16)) (b41_at (W0 m ρ c)) (b42_at (W0 m ρ c)) _ (cb_at (W0 m ρ c) _ _ _ _ rfl rfl rfl rfl)

/-- The result's array at the end, from finite arguments. -/
theorem res_eq (H : Found (V2 m ρ) c (embOf m c)) :
    (W3 m ρ c (Proc.devRef .tc main_v0) : FVec Ideal S1024x1 .f32) = fun i => netOf (V2 m ρ) c (embOf m c) (i 0) :=
  (W3_arr m ρ c 19).trans (arr1 (V2 m ρ) c (embOf m c) H)

end Cert.Xdeepfm
-- ==== Proof.Ref.lean ====
/- What the reference computes, stage by stage, read at an index. -/
module

public import proofs.«01_k».proof.Proof.Net
public import proofs.«01_k».proof.Proof.Gen.ReferenceIdeal.Read

@[expose] public section

set_option maxRecDepth 16384

noncomputable section

namespace Cert.Xdeepfm

open Idealize.ShloMosaic Idealize.ShloMosaic.TcCoe Cert.ReferenceIdeal Cert.ReferenceIdeal.Read

variable (x : FVec Ideal S1024x26013 .f32) (wl : FVec Ideal S26013x1 .f32) (bl : FVec Ideal S1 .f32) (wn : FVec Ideal S13x10 .f32) (wc : FVec Ideal S26x1000x10 .f32)
  (w0 : FVec Ideal S1521x200 .f32) (b0 : FVec Ideal S200 .f32) (w1 : FVec Ideal S7800x200 .f32) (b1 : FVec Ideal S200 .f32)
  (w2 : FVec Ideal S7800x200 .f32) (b2 : FVec Ideal S200 .f32) (clw : FVec Ideal S600x1 .f32) (clb : FVec Ideal S1 .f32)
  (dw0 : FVec Ideal S390x400 .f32) (db0 : FVec Ideal S400 .f32) (dw1 : FVec Ideal S400x400 .f32) (db1 : FVec Ideal S400 .f32)
  (dlw : FVec Ideal S400x1 .f32) (dlb : FVec Ideal S1 .f32) (pb : FVec Ideal S1 .f32)

/-- The reference's embeddings of row `n`. -/
abbrev refE (n : Fin 1024) (f : Fin 39) (d : Fin 10) : EReal := val_main_v14 (F := Ideal) x wn wc (ix3 n f d)

/-- The reference's embeddings are the row's embeddings. -/
theorem ref_emb (n : Fin 1024) (f : Fin 39) (d : Fin 10) :
    refE x wn wc n f d = emb (fun j => x (ix2 n j)) (fun f d => wn (ix2 f d)) (fun f k d => wc (ix3 f k d)) f d := by
  unfold emb refE
  pointwise [val_main_v14, val_main_v13, val_main_v12, val_main_v11, val_main_v10, val_main_v9, val_main_v8, val_main_v7, val_main_v6, val_main_v5, val_main_v4]
  by_cases h : f.val < 13
  · rw [dif_pos h, dif_pos h]
  · rw [dif_neg h, dif_neg h]
    exact Finset.sum_congr rfl fun k _ => mul_comm _ _

/-- The reference's first interaction layer. -/
theorem ref_lay1 (n : Fin 1024) (h : Fin 200) (d : Fin 10) :
    val_main_v25 (F := Ideal) x wn wc w0 b0 (ix3 n h d) = lay1 (refE x wn wc n) (fun k h => w0 (ix2 k h)) (fun h => b0 (ix1 h)) d h := by
  unfold lay1 cin0 eRow refE
  unfold val_main_v25 val_main_v24 val_main_v23 val_main_v22 val_main_v21 val_main_v20 val_main_v19 val_main_v18 val_main_v17 val_main_v16 val_main_v15
  generalize val_main_v14 (F := Ideal) x wn wc = E
  pointwise
  refine congrArg (· + _) (Finset.sum_congr rfl fun k _ => ?_)
  rw [dif_pos (by omega), dif_pos (by omega)]
  exact mul_comm _ _

/-- The reference's second interaction layer. -/
theorem ref_lay2 (n : Fin 1024) (h : Fin 200) (d : Fin 10) :
    val_main_v37 (F := Ideal) x wn wc w0 b0 w1 b1 (ix3 n h d)
      = layS (refE x wn wc n) (fun d h => val_main_v25 (F := Ideal) x wn wc w0 b0 (ix3 n h d)) (fun k h => w1 (ix2 k h)) (fun h => b1 (ix1 h)) d h := by
  unfold layS cinS eRow refE
  unfold val_main_v37 val_main_v36 val_main_v35 val_main_v34 val_main_v33 val_main_v32 val_main_v31 val_main_v30 val_main_v29 val_main_v28 val_main_v27
  generalize val_main_v14 (F := Ideal) x wn wc = E
  generalize val_main_v25 (F := Ideal) x wn wc w0 b0 = C
  pointwise
  refine congrArg (· + _) (Finset.sum_congr rfl fun k _ => ?_)
  rw [dif_pos (by omega)]
  exact mul_comm _ _

/-- The reference's third interaction layer. -/
theorem ref_lay3 (n : Fin 1024) (h : Fin 200) (d : Fin 10) :
    val_main_v49 (F := Ideal) x wn wc w0 b0 w1 b1 w2 b2 (ix3 n h d)
      = layS (refE x wn wc n) (fun d h => val_main_v37 (F := Ideal) x wn wc w0 b0 w1 b1 (ix3 n h d)) (fun k h => w2 (ix2 k h)) (fun h => b2 (ix1 h)) d h := by
  unfold layS cinS eRow refE
  unfold val_main_v49 val_main_v48 val_main_v47 val_main_v46 val_main_v45 val_main_v44 val_main_v43 val_main_v42 val_main_v41 val_main_v40 val_main_v39
  generalize val_main_v14 (F := Ideal) x wn wc = E
  generalize val_main_v37 (F := Ideal) x wn wc w0 b0 w1 b1 = C
  pointwise
  refine congrArg (· + _) (Finset.sum_congr rfl fun k _ => ?_)
  rw [dif_pos (by omega)]
  exact mul_comm _ _

/-- The logit of the reference's interaction layers, without its bias. -/
theorem ref_cin (n : Fin 1024) :
    val_main_v52 (F := Ideal) x wn wc w0 b0 w1 b1 w2 b2 clw (ix2 n 0)
      = cinLogit (refE x wn wc n) (fun k h => w0 (ix2 k h)) (fun h => b0 (ix1 h)) (fun k h => w1 (ix2 k h)) (fun h => b1 (ix1 h))
          (fun k h => w2 (ix2 k h)) (fun h => b2 (ix1 h)) (fun q => clw (ix2 q 0)) := by
  unfold cinLogit
  have e1 : (fun d h => val_main_v25 (F := Ideal) x wn wc w0 b0 (ix3 n h d)) = lay1 (refE x wn wc n) (fun k h => w0 (ix2 k h)) (fun h => b0 (ix1 h)) :=
    funext fun d => funext fun h => ref_lay1 x wn wc w0 b0 n h d
  have e2 : (fun d h => val_main_v37 (F := Ideal) x wn wc w0 b0 w1 b1 (ix3 n h d)) = _ := funext fun d => funext fun h => ref_lay2 x wn wc w0 b0 w1 b1 n h d
  have e3 : (fun d h => val_main_v49 (F := Ideal) x wn wc w0 b0 w1 b1 w2 b2 (ix3 n h d)) = _ := funext fun d => funext fun h => ref_lay3 x wn wc w0 b0 w1 b1 w2 b2 n h d
  rw [← e1, ← e2, ← e3]
  unfold poolR val_main_v52 val_main_v51 val_main_v50 val_main_v38 val_main_v26
  generalize val_main_v25 (F := Ideal) x wn wc w0 b0 = c1
  generalize val_main_v37 (F := Ideal) x wn wc w0 b0 w1 b1 = c2
  generalize val_main_v49 (F := Ideal) x wn wc w0 b0 w1 b1 w2 b2 = c3
  pointwise [val_main_cst, val_main_cst_0, val_main_cst_1]
  rw [sum_three]
  refine congrArg₂ (· + ·) (Finset.sum_congr rfl fun k _ => ?_) (congrArg₂ (· + ·) (Finset.sum_congr rfl fun k _ => ?_) (Finset.sum_congr rfl fun k _ => ?_))
  · rw [dif_pos k.isLt]
  · rw [dif_neg (show ¬ (200 + k.val < 200) by omega), dif_pos (show 200 + k.val - 200 < 200 by omega)]
    have e : (⟨200 + k.val - 200, by omega⟩ : Fin 200) = k := Fin.ext (by show 200 + k.val - 200 = k.val; omega)
    rw [e]
  · rw [dif_neg (show ¬ (400 + k.val < 200) by omega), dif_neg (show ¬ (400 + k.val - 200 < 200) by omega)]
    have e : (⟨400 + k.val - 200 - 200, by omega⟩ : Fin 200) = k := Fin.ext (by show 400 + k.val - 200 - 200 = k.val; omega)
    rw [e]

/-- The reference's dense layers and their last product, without its bias. -/
theorem ref_dnn (n : Fin 1024) :
    val_main_v67 (F := Ideal) x wn wc dw0 db0 dw1 db1 dlw (ix2 n 0)
      = dense (flatE (refE x wn wc n)) (fun q i => dw0 (ix2 q i)) (fun i => db0 (ix1 i)) (fun i j => dw1 (ix2 i j)) (fun j => db1 (ix1 j)) (fun j => dlw (ix2 j 0)) := by
  unfold dense flatE refE
  unfold val_main_v67 val_main_v66 val_main_v65 val_main_v64 val_main_v63 val_main_v62 val_main_v61 val_main_v60 val_main_v59 val_main_v58 val_main_v57 val_main_v56
  generalize val_main_v14 (F := Ideal) x wn wc = E
  pointwise [val_main_call0_v0, val_main_call1_v0, val_main_call0_cst, val_main_call1_cst]

/-- The reference's result: the logistic function of the linear, the interaction and the dense logit with their biases. -/
theorem ref_out (n : Fin 1024) :
    val_main_v81 (F := Ideal) x wl bl wn wc w0 b0 w1 b1 w2 b2 clw clb dw0 db0 dw1 db1 dlw dlb pb (ix2 n 0)
      = Ideal.logistic ((∑ j : Fin 26013, x (ix2 n j) * wl (ix2 j 0))
          + cinLogit (refE x wn wc n) (fun k h => w0 (ix2 k h)) (fun h => b0 (ix1 h)) (fun k h => w1 (ix2 k h)) (fun h => b1 (ix1 h))
              (fun k h => w2 (ix2 k h)) (fun h => b2 (ix1 h)) (fun q => clw (ix2 q 0))
          + dense (flatE (refE x wn wc n)) (fun q i => dw0 (ix2 q i)) (fun i => db0 (ix1 i)) (fun i j => dw1 (ix2 i j)) (fun j => db1 (ix1 j)) (fun j => dlw (ix2 j 0))
          + (((bl (ix1 0) + clb (ix1 0)) + dlb (ix1 0)) + pb (ix1 0))) := by
  rw [← ref_cin, ← ref_dnn]
  unfold val_main_v81 val_main_v80 val_main_v79 val_main_v78 val_main_v77 val_main_v76 val_main_v75 val_main_v74 val_main_v73 val_main_v72 val_main_v71 val_main_v70
    val_main_v69 val_main_v68 val_main_v55 val_main_v54 val_main_v53 val_main_v3 val_main_v2 val_main_v1 val_main_v0
  generalize val_main_v52 (F := Ideal) x wn wc w0 b0 w1 b1 w2 b2 clw = A
  generalize val_main_v67 (F := Ideal) x wn wc dw0 db0 dw1 db1 dlw = D
  pointwise [val_main_cst_2, val_main_cst_3]
  unfold Ideal.logistic
  refine congrArg (fun z => Ideal.div 1 (1 + Ideal.exp (-z))) ?_
  abel

end Cert.Xdeepfm
-- ==== Proof.Finite.lean ====
/- What the precondition says: the entries of seven of the arguments are finite. -/
module

public import proofs.«01_k».proof.Proof.Num
public import proofs.«01_k».proof.Proof.Gen.Pre_finite_inputs
public import Idealize.ShloMosaic.Lib.ReduceAll
public import Idealize.ShloMosaic.Lib.IdealHost
public import Idealize.ShloMosaic.Lib.Pointwise

@[expose] public section

set_option maxRecDepth 16384

noncomputable section

namespace Cert.Xdeepfm

open Idealize.ShloMosaic Cert.Pre_finite_inputs

/-- The word of the comparison's right side is infinity. -/
theorem inf_word : Ideal.ofBits .f32 0x7F800000#32 = ⊤ := by simp [Ideal.ofBits, Ideal.ieee]

/-- If all entries of an array compare below infinity in absolute value, they are finite. -/
theorem all_fin {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1)
    (i : s.Idx) : IsFin (x i) := by
  haveI : Subsingleton S_.Idx := ⟨fun a b => funext fun k => k.elim0⟩
  have h : Ideal.cmp .olt (max (x i) (-(x i))) (Ideal.ofBits .f32 0x7F800000#32) = 1 := Host.reduce_andi_all _ _ hr hu j e i
  rw [Ideal.cmp_olt_eq_one, inf_word] at h
  exact IsFin.of_abs h

/-- The conjunction of two words is one where both are. -/
theorem and_split (x y : IVec S_ 1) (j : S_.Idx) (h : andi x y j = 1#1) : x j = 1#1 ∧ y j = 1#1 := IntOp.andi_eq_one.1 h

/-- The precondition makes seven arguments finite: the batch, both embedding tables, and weights and biases of the first two interaction layers. -/
theorem fin_args (a0 : FVec Ideal S1024x26013 .f32) (a1 : FVec Ideal S26013x1 .f32) (a2 : FVec Ideal S1 .f32) (a3 : FVec Ideal S13x10 .f32)
    (a4 : FVec Ideal S26x1000x10 .f32) (a5 : FVec Ideal S1521x200 .f32) (a6 : FVec Ideal S200 .f32) (a7 : FVec Ideal S7800x200 .f32) (a8 : FVec Ideal S200 .f32)
    (a9 : FVec Ideal S7800x200 .f32) (a10 : FVec Ideal S200 .f32) (a11 : FVec Ideal S600x1 .f32) (a12 : FVec Ideal S1 .f32) (a13 : FVec Ideal S390x400 .f32)
    (a14 : FVec Ideal S400 .f32) (a15 : FVec Ideal S400x400 .f32) (a16 : FVec Ideal S400 .f32) (a17 : FVec Ideal S400x1 .f32) (a18 : FVec Ideal S1 .f32)
    (a19 : FVec Ideal S1 .f32) (j : S_.Idx)
    (h : fn (F := Ideal) a0 a1 a2 a3 a4 a5 a6 a7 a8 a9 a10 a11 a12 a13 a14 a15 a16 a17 a18 a19 j = 1#1) :
    (∀ i, IsFin (a0 i)) ∧ (∀ i, IsFin (a3 i)) ∧ (∀ i, IsFin (a4 i)) ∧ (∀ i, IsFin (a5 i)) ∧ (∀ i, IsFin (a6 i)) ∧ (∀ i, IsFin (a7 i)) ∧ ∀ i, IsFin (a8 i) := by
  unfold fn fn_part1 at h
  obtain ⟨h, e8⟩ := and_split _ _ j h
  obtain ⟨h, e7⟩ := and_split _ _ j h
  obtain ⟨h, e6⟩ := and_split _ _ j h
  obtain ⟨h, e5⟩ := and_split _ _ j h
  obtain ⟨h, e4⟩ := and_split _ _ j h
  obtain ⟨e0, e3⟩ := and_split _ _ j h
  exact ⟨all_fin a0 _ _ _ j e0, all_fin a3 _ _ _ j e3, all_fin a4 _ _ _ j e4, all_fin a5 _ _ _ j e5, all_fin a6 _ _ _ j e6, all_fin a7 _ _ _ j e7, all_fin a8 _ _ _ j e8⟩

end Cert.Xdeepfm
-- ==== Proof.Value.lean ====
/- The kernel's program and the reference compute the same array from finite arguments. -/
module

public import proofs.«01_k».proof.Defs
public import proofs.«01_k».proof.Proof.Tie
public import proofs.«01_k».proof.Proof.Ref
public import proofs.«01_k».proof.Proof.Finite
public import proofs.«01_k».proof.Proof.Gen.ReferenceIdeal
public import proofs.«01_k».proof.Proof.Gen.ReferenceIdeal.Run

@[expose] public section

set_option maxRecDepth 16384

noncomputable section

namespace Cert.Xdeepfm

open Idealize.ShloMosaic Idealize.ShloMosaic.TcCoe Idealize.SL.Sem

/-- A row of the reference's result, from the arguments and the row's embeddings. -/
theorem ref_row (x : FVec Ideal Cert.KernelIdeal.S1024x26013 .f32) (wl : FVec Ideal Cert.KernelIdeal.S26013x1 .f32) (bl : FVec Ideal Cert.KernelIdeal.S1 .f32)
    (wn : FVec Ideal Cert.KernelIdeal.S13x10 .f32) (wc : FVec Ideal Cert.KernelIdeal.S26x1000x10 .f32)
    (w0 : FVec Ideal Cert.KernelIdeal.S1521x200 .f32) (b0 : FVec Ideal Cert.KernelIdeal.S200 .f32) (w1 : FVec Ideal Cert.KernelIdeal.S7800x200 .f32)
    (b1 : FVec Ideal Cert.KernelIdeal.S200 .f32) (w2 : FVec Ideal Cert.KernelIdeal.S7800x200 .f32) (b2 : FVec Ideal Cert.KernelIdeal.S200 .f32)
    (clw : FVec Ideal Cert.KernelIdeal.S600x1 .f32) (clb : FVec Ideal Cert.KernelIdeal.S1 .f32) (dw0 : FVec Ideal Cert.KernelIdeal.S390x400 .f32)
    (db0 : FVec Ideal Cert.KernelIdeal.S400 .f32) (dw1 : FVec Ideal Cert.KernelIdeal.S400x400 .f32) (db1 : FVec Ideal Cert.KernelIdeal.S400 .f32)
    (dlw : FVec Ideal Cert.KernelIdeal.S400x1 .f32) (dlb : FVec Ideal Cert.KernelIdeal.S1 .f32) (pb : FVec Ideal Cert.KernelIdeal.S1 .f32) (n : Fin 1024) :
    Cert.ReferenceIdeal.Read.val_main_v81 (F := Ideal) x wl bl wn wc w0 b0 w1 b1 w2 b2 clw clb dw0 db0 dw1 db1 dlw dlb pb (ix2 n 0)
      = rowOut x wl bl w0 b0 w1 b1 w2 b2 clw clb dw0 db0 dw1 db1 dlw dlb pb
          (emb (fun j => x (ix2 n j)) (fun f d => wn (ix2 f d)) (fun f k d => wc (ix3 f k d))) n := by
  rw [ref_out, show refE x wn wc n = _ from funext fun f => funext fun d => ref_emb x wn wc n f d]
  rfl

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

/-- The kernel's result array is the reference's, at the kernel's arguments. -/
theorem res_ref (hp : Cert.Pre_KernelIdeal_finite_inputs m) :
    (Cert.KernelIdeal.Gen.W3 m ρ c (Proc.devRef .tc Cert.KernelIdeal.main_v0) : FVec Ideal Cert.KernelIdeal.S1024x1 .f32)
      = Cert.ReferenceIdeal.Read.val_main_v81 (F := Ideal) (m ((c.tc : Thread _ _).loc Cert.KernelIdeal.main_arg0)) (m ((c.tc : Thread _ _).loc Cert.KernelIdeal.main_arg1))
          (m ((c.tc : Thread _ _).loc Cert.KernelIdeal.main_arg2)) (m ((c.tc : Thread _ _).loc Cert.KernelIdeal.main_arg3)) (m ((c.tc : Thread _ _).loc Cert.KernelIdeal.main_arg4))
          (m ((c.tc : Thread _ _).loc Cert.KernelIdeal.main_arg5)) (m ((c.tc : Thread _ _).loc Cert.KernelIdeal.main_arg6)) (m ((c.tc : Thread _ _).loc Cert.KernelIdeal.main_arg7))
          (m ((c.tc : Thread _ _).loc Cert.KernelIdeal.main_arg8)) (m ((c.tc : Thread _ _).loc Cert.KernelIdeal.main_arg9)) (m ((c.tc : Thread _ _).loc Cert.KernelIdeal.main_arg10))
          (m ((c.tc : Thread _ _).loc Cert.KernelIdeal.main_arg11)) (m ((c.tc : Thread _ _).loc Cert.KernelIdeal.main_arg12)) (m ((c.tc : Thread _ _).loc Cert.KernelIdeal.main_arg13))
          (m ((c.tc : Thread _ _).loc Cert.KernelIdeal.main_arg14)) (m ((c.tc : Thread _ _).loc Cert.KernelIdeal.main_arg15)) (m ((c.tc : Thread _ _).loc Cert.KernelIdeal.main_arg16))
          (m ((c.tc : Thread _ _).loc Cert.KernelIdeal.main_arg17)) (m ((c.tc : Thread _ _).loc Cert.KernelIdeal.main_arg18)) (m ((c.tc : Thread _ _).loc Cert.KernelIdeal.main_arg19)) := by
  obtain ⟨f0, f3, f4, f5, f6, f7, f8⟩ := fin_args _ _ _ _ _ _ _ _ _ _ _ _ _ _ _ _ _ _ _ _ (fun k => k.elim0) (congrFun (hp c) _)
  refine (res_eq m ρ c (found m ρ c f0 f3 f4 f5 f6 f7 f8)).trans (funext fun i => ?_)
  refine (net_eq m ρ c (i 0)).trans ?_
  have e : i = (ix2 (i 0 : Fin 1024) (0 : Fin 1) : Cert.KernelIdeal.S1024x1.Idx) := by
    rw [eq_ix2 (n0 := 1024) (n1 := 1) i]
    exact congrArg (ix2 _) (Subsingleton.elim _ _)
  rw [e]
  exact (ref_row _ _ _ _ _ _ _ _ _ _ _ _ _ _ _ _ _ _ _ _ (i 0)).symm

/-- The kernel's program and the reference's end with the same result, both with their arguments unchanged. -/
theorem algebraic : Cert.algebraic_KernelIdeal_ReferenceIdeal_pre_finite_inputs := by
  intro m g m' g' hp ha
  refine ⟨fun c => Cert.KernelIdeal.Gen.W3 m g c (Proc.devRef .tc Cert.KernelIdeal.main_v0),
    (θ_run Cert.KernelIdeal.defs _ _).mono (fun r h c => ⟨(h.1 c).2, (h.1 c).1⟩) (Cert.KernelIdeal.Gen.run (F := Ideal) m g),
    (θ_run Cert.ReferenceIdeal.defs _ _).mono (fun r h c => ⟨(h c).1.trans ?_, (h c).2⟩) (Cert.ReferenceIdeal.Value.run (F := Ideal) m' g')⟩
  rw [Cert.ReferenceIdeal.Read.val_main_v81_eq]
  obtain ⟨a0, a1, a2, a3, a4, a5, a6, a7, a8, a9, a10, a11, a12, a13, a14, a15, a16, a17, a18, a19⟩ := ha c
  rw [a0, a1, a2, a3, a4, a5, a6, a7, a8, a9, a10, a11, a12, a13, a14, a15, a16, a17, a18, a19]
  exact (res_ref m g c hp).symm

end Cert.Xdeepfm
-- ==== Proof.lean ====
/- The proof of the certificate's claims: the frames of the three programs, the sanctioned idealization, and the equality of the results. -/
module

public import proofs.«01_k».proof.Defs
public import proofs.«01_k».proof.Proof.KernelLaunch
public import proofs.«01_k».proof.Proof.IdealLaunch
public import proofs.«01_k».proof.Proof.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import Idealize.ShloMosaic.Adequacy
public import Idealize.ShloMosaic.Init

@[expose] public section

noncomputable section

namespace Cert.Proof

open Idealize.ShloMosaic Idealize.SL.Sem

/-- The reference terminates, leaves its arguments as they were and every counter at zero. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- All claims of the certificate. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  ⟨IdealRules.bf16_pack.statement _, IdealRules.bf16_pack.statement _, IdealRules.bf16_pack.statement _⟩, Cert.Xdeepfm.algebraic⟩

end Cert.Proof

end
